-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![2048]⟩ (Layout.meshBlock [2, 2, 4] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![512, 512]⟩ ⟨2, ![2048, 512]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v113) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩
abbrev S1 : Shape := ⟨1, ![1]⟩
abbrev S4 : Shape := ⟨1, ![4]⟩

class Facts : Prop where
  bcast_S_S512 : S_.BroadcastsInDim S512 (![] : Fin 0 → Fin S512.rank)
  natLt_1_32 : 1 < 32
  reducesTo_S512_S_d0 : S512.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v1 : IVec S512 32) (main_v6 : IVec S_ 1) (main_v11 : IVec S_ 1) (main_v14 : IVec S512 32) (main_c_7 : IVec S_ 32) : IVec S4 1 :=
  let main_v15 : IVec S_ 32 := (fun x v => Host.reduce IntOp.addi x v reducesTo_S512_S_d0 h_S_) main_v14 main_c_7
  let main_c_8 : IVec S_ 32 := constantI S_ 32 160#32
  let main_v16 : IVec S_ 1 := cmpi .sle main_v15 main_c_8
  let main_c_9 : IVec S_ 32 := constantI S_ 32 3#32
  let main_v17 : IVec S512 32 := broadcastInDim S512 ![] bcast_S_S512 main_c_9
  let main_v18 : IVec S512 1 := cmpi .eq main_v1 main_v17
  let main_v19 : IVec S512 32 := (extui 32 · natLt_1_32) main_v18
  let main_c_10 : IVec S_ 32 := constantI S_ 32 0#32
  let main_v20 : IVec S_ 32 := (fun x v => Host.reduce IntOp.addi x v reducesTo_S512_S_d0 h_S_) main_v19 main_c_10
  let main_c_11 : IVec S_ 32 := constantI S_ 32 160#32
  let main_v21 : IVec S_ 1 := cmpi .sle main_v20 main_c_11
  let main_v22 : IVec S1 1 := broadcastInDim S1 ![] bcast_S_S1 main_v6
  let main_v23 : IVec S1 1 := broadcastInDim S1 ![] bcast_S_S1 main_v11
  let main_v24 : IVec S1 1 := broadcastInDim S1 ![] bcast_S_S1 main_v16
  let main_v25 : IVec S1 1 := broadcastInDim S1 ![] bcast_S_S1 main_v21
  let main_v26 : IVec S4 1 := concatenate S4 0 [⟨S1, main_v22⟩, ⟨S1, main_v23⟩, ⟨S1, main_v24⟩, ⟨S1, main_v25⟩] concatenates_S1_S1_S1_S1_S4_d0
  main_v26

def fn {F : FTy → Type} [FloatOps F] (main_arg0 : FVec F S512x512 .bf16) (main_arg1 : IVec S512 32) (main_arg2 : FVec F S2x512x1024 .bf16) (main_arg3 : FVec F S2x1024x512 .bf16) : IVec S4 1 :=
  let main_c : IVec S_ 32 := constantI S_ 32 1#32
  let main_v0 : IVec S512 32 := broadcastInDim S512 ![] bcast_S_S512 main_c
  let main_v1 : IVec S512 32 := Host.shrsi main_arg1 main_v0
  let main_c_0 : IVec S_ 32 := constantI S_ 32 0#32
  let main_v2 : IVec S512 32 := broadcastInDim S512 ![] bcast_S_S512 main_c_0
  let main_v3 : IVec S512 1 := cmpi .eq main_v1 main_v2
  let main_v4 : IVec S512 32 := (extui 32 · natLt_1_32) main_v3
  let main_c_1 : IVec S_ 32 := constantI S_ 32 0#32
  let main_v5 : IVec S_ 32 := (fun x v => Host.reduce IntOp.addi x v reducesTo_S512_S_d0 h_S_) main_v4 main_c_1
  let main_c_2 : IVec S_ 32 := constantI S_ 32 160#32
  let main_v6 : IVec S_ 1 := cmpi .sle main_v5 main_c_2
  let main_c_3 : IVec S_ 32 := constantI S_ 32 1#32
  let main_v7 : IVec S512 32 := broadcastInDim S512 ![] bcast_S_S512 main_c_3
  let main_v8 : IVec S512 1 := cmpi .eq main_v1 main_v7
  let main_v9 : IVec S512 32 := (extui 32 · natLt_1_32) main_v8
  let main_c_4 : IVec S_ 32 := constantI S_ 32 0#32
  let main_v10 : IVec S_ 32 := (fun x v => Host.reduce IntOp.addi x v reducesTo_S512_S_d0 h_S_) main_v9 main_c_4
  let main_c_5 : IVec S_ 32 := constantI S_ 32 160#32
  let main_v11 : IVec S_ 1 := cmpi .sle main_v10 main_c_5
  let main_c_6 : IVec S_ 32 := constantI S_ 32 2#32
  let main_v12 : IVec S512 32 := broadcastInDim S512 ![] bcast_S_S512 main_c_6
  let main_v13 : IVec S512 1 := cmpi .eq main_v1 main_v12
  let main_v14 : IVec S512 32 := (extui 32 · natLt_1_32) main_v13
  let main_c_7 : IVec S_ 32 := constantI S_ 32 0#32
  fn_part1 (F := F) main_v1 main_v6 main_v11 main_v14 main_c_7
-- ==== Pre_fits_ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1 : Shape := ⟨1, ![1]⟩
abbrev S4 : Shape := ⟨1, ![4]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v1 : IVec S2048 32) (main_v6 : IVec S_ 1) (main_v11 : IVec S_ 1) (main_v14 : IVec S2048 32) (main_c_7 : IVec S_ 32) : IVec S4 1 :=
  let main_v15 : IVec S_ 32 := (fun x v => Host.reduce IntOp.addi x v reducesTo_S2048_S_d0 h_S_) main_v14 main_c_7
  let main_c_8 : IVec S_ 32 := constantI S_ 32 160#32
  let main_v16 : IVec S_ 1 := cmpi .sle main_v15 main_c_8
  let main_c_9 : IVec S_ 32 := constantI S_ 32 3#32
  let main_v17 : IVec S2048 32 := broadcastInDim S2048 ![] bcast_S_S2048 main_c_9
  let main_v18 : IVec S2048 1 := cmpi .eq main_v1 main_v17
  let main_v19 : IVec S2048 32 := (extui 32 · natLt_1_32) main_v18
  let main_c_10 : IVec S_ 32 := constantI S_ 32 0#32
  let main_v20 : IVec S_ 32 := (fun x v => Host.reduce IntOp.addi x v reducesTo_S2048_S_d0 h_S_) main_v19 main_c_10
  let main_c_11 : IVec S_ 32 := constantI S_ 32 160#32
  let main_v21 : IVec S_ 1 := cmpi .sle main_v20 main_c_11
  let main_v22 : IVec S1 1 := broadcastInDim S1 ![] bcast_S_S1 main_v6
  let main_v23 : IVec S1 1 := broadcastInDim S1 ![] bcast_S_S1 main_v11
  let main_v24 : IVec S1 1 := broadcastInDim S1 ![] bcast_S_S1 main_v16
  let main_v25 : IVec S1 1 := broadcastInDim S1 ![] bcast_S_S1 main_v21
  let main_v26 : IVec S4 1 := concatenate S4 0 [⟨S1, main_v22⟩, ⟨S1, main_v23⟩, ⟨S1, main_v24⟩, ⟨S1, main_v25⟩] concatenates_S1_S1_S1_S1_S4_d0
  main_v26

def fn {F : FTy → Type} [FloatOps F] (main_arg0 : FVec F S2048x512 .bf16) (main_arg1 : IVec S2048 32) (main_arg2 : FVec F S8x512x1024 .bf16) (main_arg3 : FVec F S8x1024x512 .bf16) : IVec S4 1 :=
  let main_c : IVec S_ 32 := constantI S_ 32 1#32
  let main_v0 : IVec S2048 32 := broadcastInDim S2048 ![] bcast_S_S2048 main_c
  let main_v1 : IVec S2048 32 := Host.shrsi main_arg1 main_v0
  let main_c_0 : IVec S_ 32 := constantI S_ 32 0#32
  let main_v2 : IVec S2048 32 := broadcastInDim S2048 ![] bcast_S_S2048 main_c_0
  let main_v3 : IVec S2048 1 := cmpi .eq main_v1 main_v2
  let main_v4 : IVec S2048 32 := (extui 32 · natLt_1_32) main_v3
  let main_c_1 : IVec S_ 32 := constantI S_ 32 0#32
  let main_v5 : IVec S_ 32 := (fun x v => Host.reduce IntOp.addi x v reducesTo_S2048_S_d0 h_S_) main_v4 main_c_1
  let main_c_2 : IVec S_ 32 := constantI S_ 32 160#32
  let main_v6 : IVec S_ 1 := cmpi .sle main_v5 main_c_2
  let main_c_3 : IVec S_ 32 := constantI S_ 32 1#32
  let main_v7 : IVec S2048 32 := broadcastInDim S2048 ![] bcast_S_S2048 main_c_3
  let main_v8 : IVec S2048 1 := cmpi .eq main_v1 main_v7
  let main_v9 : IVec S2048 32 := (extui 32 · natLt_1_32) main_v8
  let main_c_4 : IVec S_ 32 := constantI S_ 32 0#32
  let main_v10 : IVec S_ 32 := (fun x v => Host.reduce IntOp.addi x v reducesTo_S2048_S_d0 h_S_) main_v9 main_c_4
  let main_c_5 : IVec S_ 32 := constantI S_ 32 160#32
  let main_v11 : IVec S_ 1 := cmpi .sle main_v10 main_c_5
  let main_c_6 : IVec S_ 32 := constantI S_ 32 2#32
  let main_v12 : IVec S2048 32 := broadcastInDim S2048 ![] bcast_S_S2048 main_c_6
  let main_v13 : IVec S2048 1 := cmpi .eq main_v1 main_v12
  let main_v14 : IVec S2048 32 := (extui 32 · natLt_1_32) main_v13
  let main_c_7 : IVec S_ 32 := constantI S_ 32 0#32
  fn_part1 (F := F) main_v1 main_v6 main_v11 main_v14 main_c_7
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S1x512 : Shape := ⟨2, ![1, 512]⟩
abbrev S3x160x512 : Shape := ⟨3, ![3, 160, 512]⟩
abbrev S3x160x1 : Shape := ⟨3, ![3, 160, 1]⟩
abbrev S480x512 : Shape := ⟨2, ![480, 512]⟩
abbrev S480x1 : Shape := ⟨2, ![480, 1]⟩
abbrev S3 : Shape := ⟨1, ![3]⟩
abbrev S_ : Shape := ⟨0, ![]⟩
abbrev S160x512 : Shape := ⟨2, ![160, 512]⟩
abbrev S1x160x512 : Shape := ⟨3, ![1, 160, 512]⟩
abbrev S160x1 : Shape := ⟨2, ![160, 1]⟩
abbrev S1x160x1 : Shape := ⟨3, ![1, 160, 1]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S160x1024 : Shape := ⟨2, ![160, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x1, .i32⟩
  | .hbm, ⟨5, _⟩ => ⟨S1x512, .i32⟩
  | .hbm, ⟨6, _⟩ => ⟨S512x512, .f32⟩
  | .local _ .vmem, ⟨0, _⟩ => ⟨S512x512, .bf16⟩
  | .local _ .vmem, ⟨1, _⟩ => ⟨S512x1, .i32⟩
  | .local _ .vmem, ⟨2, _⟩ => ⟨S1x512, .i32⟩
  | .local _ .vmem, ⟨3, _⟩ => ⟨S2x512x1024, .bf16⟩
  | .local _ .vmem, ⟨4, _⟩ => ⟨S2x1024x512, .bf16⟩
  | .local _ .vmem, ⟨5, _⟩ => ⟨S512x512, .f32⟩
  | .local _ .vmem, ⟨6, _⟩ => ⟨S3x160x512, .bf16⟩
  | .local _ .vmem, ⟨7, _⟩ => ⟨S3x160x1, .bf16⟩
  | .local _ .vmem, ⟨8, _⟩ => ⟨S480x512, .bf16⟩
  | .local _ .vmem, ⟨9, _⟩ => ⟨S480x1, .bf16⟩
  | .local _ .vmem, ⟨10, _⟩ => ⟨S480x512, .bf16⟩
  | .local _ .vmem, ⟨11, _⟩ => ⟨S3x160x512, .bf16⟩
  | .local _ .vmem, ⟨12, _⟩ => ⟨S2x512x1024, .bf16⟩
  | .local _ .vmem, ⟨13, _⟩ => ⟨S2x1024x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v19 : BitVec 32 := Scalar.muli v2 c8_i32_8
  let v20 : BitVec 32 := Scalar.addi c0_i32_9 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v21 : BitVec 32 := Scalar.muli v5 c4_i32_10
  let v22 : BitVec 32 := Scalar.addi v20 v21
  let c0_i32_2 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sle v8 c0_i32
  let v10 : BitVec 32 := Scalar.extui v9
  let v11 : BitVec 32 := Scalar.addi c0_i32_2 v10
  let c1_i32_11 : BitVec 32 := 1#32
  let v23 : BitVec 32 := Scalar.muli v11 c1_i32_11
  let v24 : BitVec 32 := Scalar.addi v22 v23
  v24.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v25 : BitVec 32 := Scalar.muli v2 c8_i32_13
  let v26 : BitVec 32 := Scalar.addi c0_i32_14 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v27 : BitVec 32 := Scalar.muli v5 c4_i32_15
  let v28 : BitVec 32 := Scalar.addi v26 v27
  let c1_i32_4 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .sle v8 c1_i32_3
  let v13 : BitVec 32 := Scalar.extui v12
  let v14 : BitVec 32 := Scalar.addi c1_i32_4 v13
  let c1_i32_16 : BitVec 32 := 1#32
  let v29 : BitVec 32 := Scalar.muli v14 c1_i32_16
  let v30 : BitVec 32 := Scalar.addi v28 v29
  v30.toNat
def k0_dev3 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v31 : BitVec 32 := Scalar.muli v2 c8_i32_18
  let v32 : BitVec 32 := Scalar.addi c0_i32_19 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v33 : BitVec 32 := Scalar.muli v5 c4_i32_20
  let v34 : BitVec 32 := Scalar.addi v32 v33
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v15 : BitVec 1 := Scalar.cmpi .sle v8 c2_i32_5
  let v16 : BitVec 32 := Scalar.extui v15
  let v17 : BitVec 32 := Scalar.addi c2_i32_6 v16
  let c1_i32_21 : BitVec 32 := 1#32
  let v35 : BitVec 32 := Scalar.muli v17 c1_i32_21
  let v36 : BitVec 32 := Scalar.addi v34 v35
  v36.toNat
def k0_off1 (d0 : Dev nD) (c0_i32_2 : BitVec 32) (c0_i32 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 1 := Scalar.cmpi .sle v8 c0_i32
  let v10 : BitVec 32 := Scalar.extui v9
  let v11 : BitVec 32 := Scalar.addi c0_i32_2 v10
  let v81 : BitVec 1 := Scalar.cmpi .sgt v8 v11
  let v82 : BitVec 32 := Scalar.extui v81
  let v83 : BitVec 32 := Scalar.subi v8 v82
  ![v83.toNat]
def k0_off1_at (r : Fin 3) : BitVec 32 × BitVec 32 :=
  if r.val < 1 then
    (0#32, 0#32)
  else
    if r.val < 2 then
      (1#32, 1#32)
    else
      (2#32, 2#32)
def k0_off2 (d0 : Dev nD) (c0_i32_2 : BitVec 32) (c0_i32 : BitVec 32) : Fin 2 → Nat :=
  let c160_i32 : BitVec 32 := 160#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 1 := Scalar.cmpi .sle v8 c0_i32
  let v10 : BitVec 32 := Scalar.extui v9
  let v11 : BitVec 32 := Scalar.addi c0_i32_2 v10
  let v81 : BitVec 1 := Scalar.cmpi .sgt v8 v11
  let v82 : BitVec 32 := Scalar.extui v81
  let v83 : BitVec 32 := Scalar.subi v8 v82
  let v84 : BitVec 32 := Scalar.muli c160_i32 v83
  let c0_i32_45 : BitVec 32 := 0#32
  ![v84.toNat, 0]
def k0_off2_at (r : Fin 3) : BitVec 32 × BitVec 32 :=
  if r.val < 1 then
    (0#32, 0#32)
  else
    if r.val < 2 then
      (1#32, 1#32)
    else
      (2#32, 2#32)
def k0_dev4 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v86 : BitVec 32 := Scalar.muli v2 c8_i32_41
  let v87 : BitVec 32 := Scalar.addi c0_i32_42 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v88 : BitVec 32 := Scalar.muli v5 c4_i32_43
  let v89 : BitVec 32 := Scalar.addi v87 v88
  let c0_i32_2 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sle v8 c0_i32
  let v10 : BitVec 32 := Scalar.extui v9
  let v11 : BitVec 32 := Scalar.addi c0_i32_2 v10
  let c1_i32_44 : BitVec 32 := 1#32
  let v90 : BitVec 32 := Scalar.muli v11 c1_i32_44
  let v91 : BitVec 32 := Scalar.addi v89 v90
  v91.toNat
def k0_off3 (d0 : Dev nD) (c0_i32_2 : BitVec 32) (c0_i32 : BitVec 32) : Fin 2 → Nat :=
  let c160_i32_38 : BitVec 32 := 160#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 1 := Scalar.cmpi .sle v8 c0_i32
  let v10 : BitVec 32 := Scalar.extui v9
  let v11 : BitVec 32 := Scalar.addi c0_i32_2 v10
  let v81 : BitVec 1 := Scalar.cmpi .sgt v8 v11
  let v82 : BitVec 32 := Scalar.extui v81
  let v83 : BitVec 32 := Scalar.subi v8 v82
  let v85 : BitVec 32 := Scalar.muli c160_i32_38 v83
  let c0_i32_54 : BitVec 32 := 0#32
  ![v85.toNat, 0]
def k0_off3_at (r : Fin 3) : BitVec 32 × BitVec 32 :=
  if r.val < 1 then
    (0#32, 0#32)
  else
    if r.val < 2 then
      (1#32, 1#32)
    else
      (2#32, 2#32)
def k0_dev5 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v99 : BitVec 32 := Scalar.muli v2 c8_i32_50
  let v100 : BitVec 32 := Scalar.addi c0_i32_51 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v101 : BitVec 32 := Scalar.muli v5 c4_i32_52
  let v102 : BitVec 32 := Scalar.addi v100 v101
  let c0_i32_2 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sle v8 c0_i32
  let v10 : BitVec 32 := Scalar.extui v9
  let v11 : BitVec 32 := Scalar.addi c0_i32_2 v10
  let c1_i32_53 : BitVec 32 := 1#32
  let v103 : BitVec 32 := Scalar.muli v11 c1_i32_53
  let v104 : BitVec 32 := Scalar.addi v102 v103
  v104.toNat
def k0_dev6 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v143 : BitVec 32 := Scalar.muli v2 c8_i32_70
  let v144 : BitVec 32 := Scalar.addi c0_i32_71 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v145 : BitVec 32 := Scalar.muli v5 c4_i32_72
  let v146 : BitVec 32 := Scalar.addi v144 v145
  let c1_i32_4 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .sle v8 c1_i32_3
  let v13 : BitVec 32 := Scalar.extui v12
  let v14 : BitVec 32 := Scalar.addi c1_i32_4 v13
  let c1_i32_73 : BitVec 32 := 1#32
  let v147 : BitVec 32 := Scalar.muli v14 c1_i32_73
  let v148 : BitVec 32 := Scalar.addi v146 v147
  v148.toNat
def k0_dev7 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v156 : BitVec 32 := Scalar.muli v2 c8_i32_79
  let v157 : BitVec 32 := Scalar.addi c0_i32_80 v156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v158 : BitVec 32 := Scalar.muli v5 c4_i32_81
  let v159 : BitVec 32 := Scalar.addi v157 v158
  let c1_i32_4 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .sle v8 c1_i32_3
  let v13 : BitVec 32 := Scalar.extui v12
  let v14 : BitVec 32 := Scalar.addi c1_i32_4 v13
  let c1_i32_82 : BitVec 32 := 1#32
  let v160 : BitVec 32 := Scalar.muli v14 c1_i32_82
  let v161 : BitVec 32 := Scalar.addi v159 v160
  v161.toNat
def k0_dev8 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v200 : BitVec 32 := Scalar.muli v2 c8_i32_99
  let v201 : BitVec 32 := Scalar.addi c0_i32_100 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v202 : BitVec 32 := Scalar.muli v5 c4_i32_101
  let v203 : BitVec 32 := Scalar.addi v201 v202
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v15 : BitVec 1 := Scalar.cmpi .sle v8 c2_i32_5
  let v16 : BitVec 32 := Scalar.extui v15
  let v17 : BitVec 32 := Scalar.addi c2_i32_6 v16
  let c1_i32_102 : BitVec 32 := 1#32
  let v204 : BitVec 32 := Scalar.muli v17 c1_i32_102
  let v205 : BitVec 32 := Scalar.addi v203 v204
  v205.toNat
def k0_dev9 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v213 : BitVec 32 := Scalar.muli v2 c8_i32_108
  let v214 : BitVec 32 := Scalar.addi c0_i32_109 v213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v215 : BitVec 32 := Scalar.muli v5 c4_i32_110
  let v216 : BitVec 32 := Scalar.addi v214 v215
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v15 : BitVec 1 := Scalar.cmpi .sle v8 c2_i32_5
  let v16 : BitVec 32 := Scalar.extui v15
  let v17 : BitVec 32 := Scalar.addi c2_i32_6 v16
  let c1_i32_111 : BitVec 32 := 1#32
  let v217 : BitVec 32 := Scalar.muli v17 c1_i32_111
  let v218 : BitVec 32 := Scalar.addi v216 v217
  v218.toNat
def k0_off4 (d0 : Dev nD) (c0_i32_2 : BitVec 32) (c0_i32 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 1 := Scalar.cmpi .sle v8 c0_i32
  let v10 : BitVec 32 := Scalar.extui v9
  let v11 : BitVec 32 := Scalar.addi c0_i32_2 v10
  let v350 : BitVec 1 := Scalar.cmpi .sgt v8 v11
  let v351 : BitVec 32 := Scalar.extui v350
  let v352 : BitVec 32 := Scalar.subi v8 v351
  let c0_i32_214 : BitVec 32 := 0#32
  let c0_i32_215 : BitVec 32 := 0#32
  ![v352.toNat, 0, 0]
def k0_off4_at (r : Fin 3) : BitVec 32 × BitVec 32 :=
  if r.val < 1 then
    (0#32, 0#32)
  else
    if r.val < 2 then
      (1#32, 1#32)
    else
      (2#32, 2#32)
def k0_dev10 (d0 : Dev nD) : Nat :=
  let c0_i32_211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_210 : BitVec 32 := 8#32
  let v353 : BitVec 32 := Scalar.muli v2 c8_i32_210
  let v354 : BitVec 32 := Scalar.addi c0_i32_211 v353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_212 : BitVec 32 := 4#32
  let v355 : BitVec 32 := Scalar.muli v5 c4_i32_212
  let v356 : BitVec 32 := Scalar.addi v354 v355
  let c0_i32_2 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sle v8 c0_i32
  let v10 : BitVec 32 := Scalar.extui v9
  let v11 : BitVec 32 := Scalar.addi c0_i32_2 v10
  let c1_i32_213 : BitVec 32 := 1#32
  let v357 : BitVec 32 := Scalar.muli v11 c1_i32_213
  let v358 : BitVec 32 := Scalar.addi v356 v357
  v358.toNat
def k0_dev11 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v440 : BitVec 32 := Scalar.muli v2 c8_i32_273
  let v441 : BitVec 32 := Scalar.addi c0_i32_274 v440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_275 : BitVec 32 := 4#32
  let v442 : BitVec 32 := Scalar.muli v5 c4_i32_275
  let v443 : BitVec 32 := Scalar.addi v441 v442
  let c1_i32_4 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .sle v8 c1_i32_3
  let v13 : BitVec 32 := Scalar.extui v12
  let v14 : BitVec 32 := Scalar.addi c1_i32_4 v13
  let c1_i32_276 : BitVec 32 := 1#32
  let v444 : BitVec 32 := Scalar.muli v14 c1_i32_276
  let v445 : BitVec 32 := Scalar.addi v443 v444
  v445.toNat
def k0_dev12 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v527 : BitVec 32 := Scalar.muli v2 c8_i32_335
  let v528 : BitVec 32 := Scalar.addi c0_i32_336 v527
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v529 : BitVec 32 := Scalar.muli v5 c4_i32_337
  let v530 : BitVec 32 := Scalar.addi v528 v529
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v15 : BitVec 1 := Scalar.cmpi .sle v8 c2_i32_5
  let v16 : BitVec 32 := Scalar.extui v15
  let v17 : BitVec 32 := Scalar.addi c2_i32_6 v16
  let c1_i32_338 : BitVec 32 := 1#32
  let v531 : BitVec 32 := Scalar.muli v17 c1_i32_338
  let v532 : BitVec 32 := Scalar.addi v530 v531
  v532.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1x512x1024 : Shape := ⟨3, ![1, 512, 1024]⟩
abbrev S512x1024 : Shape := ⟨2, ![512, 1024]⟩
abbrev S2048x1024 : Shape := ⟨2, ![2048, 1024]⟩
abbrev S2048x1 : Shape := ⟨2, ![2048, 1]⟩
abbrev S1x1024x512 : Shape := ⟨3, ![1, 1024, 512]⟩
abbrev S1024x512 : Shape := ⟨2, ![1024, 512]⟩

abbrev nBuf : Space → Nat
  | .hbm => 143
  | .vmem => 0
  | .smem => 0
  | _ => 0

abbrev hbmTy0_0 (i : Nat) : BufTy := match i % 128 with
  | 0 => ⟨S2048x512, .bf16⟩
  | 1 => ⟨S2048, .i32⟩
  | 2 => ⟨S8x512x1024, .bf16⟩
  | 3 => ⟨S8x1024x512, .bf16⟩
  | 4 => ⟨S2048x512, .f32⟩
  | 5 => ⟨S_, .f32⟩
  | 6 => ⟨S2048x512, .f32⟩
  | 7 => ⟨S_, .i32⟩
  | 8 => ⟨S2048, .i32⟩
  | 9 => ⟨S2048, .i1⟩
  | 10 => ⟨S1x512x1024, .bf16⟩
  | 11 => ⟨S512x1024, .bf16⟩
  | 12 => ⟨S512x1024, .f32⟩
  | 13 => ⟨S2048x1024, .f32⟩
  | 14 => ⟨S_, .f32⟩
  | 15 => ⟨S2048x1024, .f32⟩
  | 16 => ⟨S2048x1024, .f32⟩
  | 17 => ⟨S2048x1, .i1⟩
  | 18 => ⟨S1x1024x512, .bf16⟩
  | 19 => ⟨S1024x512, .bf16⟩
  | 20 => ⟨S1024x512, .f32⟩
  | 21 => ⟨S2048x512, .f32⟩
  | 22 => ⟨S2048x512, .i1⟩
  | 23 => ⟨S2048x512, .f32⟩
  | 24 => ⟨S_, .i32⟩
  | 25 => ⟨S2048, .i32⟩
  | 26 => ⟨S2048, .i1⟩
  | 27 => ⟨S1x512x1024, .bf16⟩
  | 28 => ⟨S512x1024, .bf16⟩
  | 29 => ⟨S512x1024, .f32⟩
  | 30 => ⟨S2048x1024, .f32⟩
  | 31 => ⟨S_, .f32⟩
  | 32 => ⟨S2048x1024, .f32⟩
  | 33 => ⟨S2048x1024, .f32⟩
  | 34 => ⟨S2048x1, .i1⟩
  | 35 => ⟨S1x1024x512, .bf16⟩
  | 36 => ⟨S1024x512, .bf16⟩
  | 37 => ⟨S1024x512, .f32⟩
  | 38 => ⟨S2048x512, .f32⟩
  | 39 => ⟨S2048x512, .i1⟩
  | 40 => ⟨S2048x512, .f32⟩
  | 41 => ⟨S_, .i32⟩
  | 42 => ⟨S2048, .i32⟩
  | 43 => ⟨S2048, .i1⟩
  | 44 => ⟨S1x512x1024, .bf16⟩
  | 45 => ⟨S512x1024, .bf16⟩
  | 46 => ⟨S512x1024, .f32⟩
  | 47 => ⟨S2048x1024, .f32⟩
  | 48 => ⟨S_, .f32⟩
  | 49 => ⟨S2048x1024, .f32⟩
  | 50 => ⟨S2048x1024, .f32⟩
  | 51 => ⟨S2048x1, .i1⟩
  | 52 => ⟨S1x1024x512, .bf16⟩
  | 53 => ⟨S1024x512, .bf16⟩
  | 54 => ⟨S1024x512, .f32⟩
  | 55 => ⟨S2048x512, .f32⟩
  | 56 => ⟨S2048x512, .i1⟩
  | 57 => ⟨S2048x512, .f32⟩
  | 58 => ⟨S_, .i32⟩
  | 59 => ⟨S2048, .i32⟩
  | 60 => ⟨S2048, .i1⟩
  | 61 => ⟨S1x512x1024, .bf16⟩
  | 62 => ⟨S512x1024, .bf16⟩
  | 63 => ⟨S512x1024, .f32⟩
  | 64 => ⟨S2048x1024, .f32⟩
  | 65 => ⟨S_, .f32⟩
  | 66 => ⟨S2048x1024, .f32⟩
  | 67 => ⟨S2048x1024, .f32⟩
  | 68 => ⟨S2048x1, .i1⟩
  | 69 => ⟨S1x1024x512, .bf16⟩
  | 70 => ⟨S1024x512, .bf16⟩
  | 71 => ⟨S1024x512, .f32⟩
  | 72 => ⟨S2048x512, .f32⟩
  | 73 => ⟨S2048x512, .i1⟩
  | 74 => ⟨S2048x512, .f32⟩
  | 75 => ⟨S_, .i32⟩
  | 76 => ⟨S2048, .i32⟩
  | 77 => ⟨S2048, .i1⟩
  | 78 => ⟨S1x512x1024, .bf16⟩
  | 79 => ⟨S512x1024, .bf16⟩
  | 80 => ⟨S512x1024, .f32⟩
  | 81 => ⟨S2048x1024, .f32⟩
  | 82 => ⟨S_, .f32⟩
  | 83 => ⟨S2048x1024, .f32⟩
  | 84 => ⟨S2048x1024, .f32⟩
  | 85 => ⟨S2048x1, .i1⟩
  | 86 => ⟨S1x1024x512, .bf16⟩
  | 87 => ⟨S1024x512, .bf16⟩
  | 88 => ⟨S1024x512, .f32⟩
  | 89 => ⟨S2048x512, .f32⟩
  | 90 => ⟨S2048x512, .i1⟩
  | 91 => ⟨S2048x512, .f32⟩
  | 92 => ⟨S_, .i32⟩
  | 93 => ⟨S2048, .i32⟩
  | 94 => ⟨S2048, .i1⟩
  | 95 => ⟨S1x512x1024, .bf16⟩
  | 96 => ⟨S512x1024, .bf16⟩
  | 97 => ⟨S512x1024, .f32⟩
  | 98 => ⟨S2048x1024, .f32⟩
  | 99 => ⟨S_, .f32⟩
  | 100 => ⟨S2048x1024, .f32⟩
  | 101 => ⟨S2048x1024, .f32⟩
  | 102 => ⟨S2048x1, .i1⟩
  | 103 => ⟨S1x1024x512, .bf16⟩
  | 104 => ⟨S1024x512, .bf16⟩
  | 105 => ⟨S1024x512, .f32⟩
  | 106 => ⟨S2048x512, .f32⟩
  | 107 => ⟨S2048x512, .i1⟩
  | 108 => ⟨S2048x512, .f32⟩
  | 109 => ⟨S_, .i32⟩
  | 110 => ⟨S2048, .i32⟩
  | 111 => ⟨S2048, .i1⟩
  | 112 => ⟨S1x512x1024, .bf16⟩
  | 113 => ⟨S512x1024, .bf16⟩
  | 114 => ⟨S512x1024, .f32⟩
  | 115 => ⟨S2048x1024, .f32⟩
  | 116 => ⟨S_, .f32⟩
  | 117 => ⟨S2048x1024, .f32⟩
  | 118 => ⟨S2048x1024, .f32⟩
  | 119 => ⟨S2048x1, .i1⟩
  | 120 => ⟨S1x1024x512, .bf16⟩
  | 121 => ⟨S1024x512, .bf16⟩
  | 122 => ⟨S1024x512, .f32⟩
  | 123 => ⟨S2048x512, .f32⟩
  | 124 => ⟨S2048x512, .i1⟩
  | 125 => ⟨S2048x512, .f32⟩
  | 126 => ⟨S_, .i32⟩
  | 127 => ⟨S2048, .i32⟩
  | _ => ⟨S2048x512, .bf16⟩

abbrev hbmTy0_1 (i : Nat) : BufTy := match i % 128 with
  | 0 => ⟨S2048, .i1⟩
  | 1 => ⟨S1x512x1024, .bf16⟩
  | 2 => ⟨S512x1024, .bf16⟩
  | 3 => ⟨S512x1024, .f32⟩
  | 4 => ⟨S2048x1024, .f32⟩
  | 5 => ⟨S_, .f32⟩
  | 6 => ⟨S2048x1024, .f32⟩
  | 7 => ⟨S2048x1024, .f32⟩
  | 8 => ⟨S2048x1, .i1⟩
  | 9 => ⟨S1x1024x512, .bf16⟩
  | 10 => ⟨S1024x512, .bf16⟩
  | 11 => ⟨S1024x512, .f32⟩
  | 12 => ⟨S2048x512, .f32⟩
  | 13 => ⟨S2048x512, .i1⟩
  | 14 => ⟨S2048x512, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call4_v0 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call5_v0 : Ref sig .tc := ⟨.hbm, 107, rfl⟩
abbrev main_v85 : Ref sig .tc := ⟨.hbm, 108, rfl⟩
abbrev main_c_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call6_v0 : Ref sig .tc := ⟨.hbm, 124, rfl⟩
abbrev main_v99 : Ref sig .tc := ⟨.hbm, 125, rfl⟩
abbrev main_c_13 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_14 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call7_v0 : Ref sig .tc := ⟨.hbm, 141, rfl⟩
abbrev main_v113 : Ref sig .tc := ⟨.hbm, 142, rfl⟩

abbrev nD : Nat := 1
abbrev τ : Topo := Topo.v7x

variable {F : FTy → Type} [FloatOps F]
-- ==== Proof.Steps.lean ====
/- Holding a view of a buffer at stated values, and the rules of a program's loads and stores in those terms. Nothing here
   knows the kernel: any signature, any mesh, any element values. -/
module

public import Idealize.ShloMosaic.Lib.Pipeline.Kit
public import Idealize.ShloMosaic.Lib.Rounds
public import Idealize.ShloMosaic.Lib.Tactic
public import Idealize.ShloMosaic.PureOps

@[expose] public section

noncomputable section

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

variable (c : Thread nD τ)
variable {sp : Space} {s : Shape} {e : EltTy}

/-- The elements under the view `v` on `c`, owned, reading `w` through the view. -/
def holds (v : View sig c.2.kind sp s e) (w : s.Idx → Val e) : sProp 𝕄 :=
  iprop(∃ f : Buf Val (v.loc c), ⌜v.read Val f = w⌝ ∗ (v.loc c ↦[v.set]{fullShare} f))

/-- The elements under the view `v` on `c`, owned, at contents not chosen. -/
def somes (v : View sig c.2.kind sp s e) : sProp 𝕄 :=
  iprop(∃ f : Buf Val (v.loc c), (v.loc c ↦[v.set]{fullShare} f))

instance holds_storable (v : View sig c.2.kind sp s e) (w : s.Idx → Val e) :
    BI.Storable (upEmb : UEmb _ 𝕄) (holds c v w : sProp 𝕄) := by unfold holds; infer_instance

instance somes_storable (v : View sig c.2.kind sp s e) :
    BI.Storable (upEmb : UEmb _ 𝕄) (somes c v : sProp 𝕄) := by unfold somes; infer_instance

theorem holds_somes (v : View sig c.2.kind sp s e) (w : s.Idx → Val e) : (holds c v w : sProp 𝕄) ⊢ somes c v := by
  unfold holds somes
  iintro ⟨%f, -, H⟩
  iexists f; iexact H

theorem holds_intro (v : View sig c.2.kind sp s e) {w : s.Idx → Val e} {f : Buf Val (v.loc c)} (h : v.read Val f = w) :
    ((v.loc c ↦[v.set]{fullShare} f) : sProp 𝕄) ⊢ holds c v w := by
  unfold holds
  iintro H
  iexists f
  isplitr
  · ipureintro; exact h
  · iexact H

theorem holds_of_eq (v : View sig c.2.kind sp s e) {w w' : s.Idx → Val e} (h : w = w') :
    (holds c v w : sProp 𝕄) ⊢ holds c v w' := by subst h; exact Entails.refl _

/-- A view read in another shape holds the same values, indexed in that shape. -/
theorem holds_reshape (v : View sig c.2.kind sp s e) (s' : Shape) (h : s'.numel = s.numel) (w : s.Idx → Val e) :
    (holds c v w : sProp 𝕄) ⊢ holds c (v.reshape s' h) (fun x => w (Shape.reshapeEquiv h x)) := by
  unfold holds
  iintro ⟨%f, %hf, H⟩
  iexists f
  isplitr
  · ipureintro
    subst hf; rfl
  · rw [View.set_reshape]; iexact H

theorem holds_unreshape (v : View sig c.2.kind sp s e) (s' : Shape) (h : s'.numel = s.numel) (w : s'.Idx → Val e) :
    (holds c (v.reshape s' h) w : sProp 𝕄) ⊢ holds c v (fun x => w ((Shape.reshapeEquiv h).symm x)) := by
  unfold holds
  iintro ⟨%f, %hf, H⟩
  iexists f
  isplitr
  · ipureintro
    subst hf
    funext x
    show v.read Val f x = v.read Val f (Shape.reshapeEquiv h ((Shape.reshapeEquiv h).symm x))
    rw [Equiv.apply_symm_apply]
  · rw [View.set_reshape]; iexact H

theorem somes_unreshape (v : View sig c.2.kind sp s e) (s' : Shape) (h : s'.numel = s.numel) :
    (somes c (v.reshape s' h) : sProp 𝕄) ⊢ somes c v := by
  unfold somes
  rw [View.set_reshape]

theorem somes_reshape (v : View sig c.2.kind sp s e) (s' : Shape) (h : s'.numel = s.numel) :
    (somes c v : sProp 𝕄) ⊢ somes c (v.reshape s' h) := by
  unfold somes
  rw [View.set_reshape]

/-! ## Loads and stores -/

variable [Preorder Lvl] {defs : Defs nD τ sig Val Λ} (𝒱 : Variants) (bd : Option 𝒱.V) (E : Set Name)
variable {α : Type} {Q : α → sProp (MT nD τ sig Ix Val Name U Lvl)}

/-- A load through a rectangle of a memref reads the memref's values there. -/
theorem load_holds {cs : CoreSpace} {m : Memref sig c.2.kind cs s e} {r : Rect s} {hl : m.view.LoadsAt r}
    {k : (r.shape.Idx → Val e) → Prog (TpuEff nD τ sig Val Λ c.2) α} (w : s.Idx → Val e) :
    (holds c m.view w : sProp 𝕄)
      ⊢ iprop(((holds c m.view w) -∗ wp frame (wpE defs 𝒱 c bd) E (k (fun x => w (r.emb x))) Q)
        -∗ wp frame (wpE defs 𝒱 c bd) E (.op (.load m r hl) k) Q) := by
  unfold holds
  iintro ⟨%f, %hf, H⟩ Hk
  iapply (wp_load_rect 𝒱 c bd E (m := m) (r := r) (View.set_slice_subset _ _)) $$ H
  iintro H
  subst hf
  iapply Hk
  iexists f
  isplitr
  · ipureintro; rfl
  · iexact H

/-- A load of exactly the elements held. -/
theorem load_slot {cs : CoreSpace} {m : Memref sig c.2.kind cs s e} {r : Rect s} {hl : m.view.LoadsAt r}
    {k : (r.shape.Idx → Val e) → Prog (TpuEff nD τ sig Val Λ c.2) α} (w : r.shape.Idx → Val e) :
    (holds c (m.view.slice r) w : sProp 𝕄)
      ⊢ iprop(((holds c (m.view.slice r) w) -∗ wp frame (wpE defs 𝒱 c bd) E (k w) Q)
        -∗ wp frame (wpE defs 𝒱 c bd) E (.op (.load m r hl) k) Q) := by
  unfold holds
  iintro ⟨%f, %hf, H⟩ Hk
  iapply (wp_load_rect 𝒱 c bd E (m := m) (r := r) (Finset.Subset.refl _)) $$ H
  iintro H
  subst hf
  iapply Hk
  iexists f
  isplitr
  · ipureintro; rfl
  · iexact H

/-- A load whose value the program does not use. -/
theorem load_somes {cs : CoreSpace} {m : Memref sig c.2.kind cs s e} {r : Rect s} {hl : m.view.LoadsAt r}
    {k : (r.shape.Idx → Val e) → Prog (TpuEff nD τ sig Val Λ c.2) α} {k' : Prog (TpuEff nD τ sig Val Λ c.2) α} (hk : k = fun _ => k') :
    (somes c (m.view.slice r) : sProp 𝕄)
      ⊢ iprop(((somes c (m.view.slice r)) -∗ wp frame (wpE defs 𝒱 c bd) E k' Q)
        -∗ wp frame (wpE defs 𝒱 c bd) E (.op (.load m r hl) k) Q) := by
  subst hk
  unfold somes
  iintro ⟨%f, H⟩ Hk
  iapply (wp_load_rect 𝒱 c bd E (m := m) (r := r) (Finset.Subset.refl _)) $$ H
  iintro H
  iapply Hk
  iexists f
  iexact H

/-- A store to every element of a rectangle. -/
theorem store_slot {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (somes c (m.view.slice r) : sProp 𝕄)
      ⊢ iprop(((holds c (m.view.slice r) w) -∗ wp frame (wpE defs 𝒱 c bd) E (k ⟨⟩) Q)
        -∗ wp frame (wpE defs 𝒱 c bd) E (.op (.store m r w Finset.univ hx hm) k) Q) := by
  unfold holds somes
  iintro ⟨%f, H⟩ Hk
  iapply (wp_store 𝒱 c bd E (m := m) (r := r) (w := w) (Mk := Finset.univ) (S := (m.access r).set) (View.setOn_univ _).subset) $$ H
  iintro H
  iapply Hk
  iexists (m.access r).write Val f w Finset.univ
  isplitr
  · ipureintro; exact View.read_write_univ _ _
  · iexact H

/-! ## Whole buffers -/

section Whole

variable (b : Ref sig c.2.kind) {off : Fin b.ty.shape.rank → Nat}

theorem set_unit_zero (h : off = fun _ => 0) (inb : ∀ a, off a + b.ty.shape.size a ≤ b.ty.shape.size a) :
    ((Memref.whole b).view.slice (Rect.unit off b.ty.shape.size inb)).set = (Memref.whole b : Memref sig _ _ _ _).view.set := by
  subst h
  exact (Memref.set_access_whole b).trans (View.set_whole b).symm

/-- A rectangle of a whole buffer's own sizes at zero offsets is the buffer. -/
theorem holds_unit_zero (h : off = fun _ => 0) (inb : ∀ a, off a + b.ty.shape.size a ≤ b.ty.shape.size a)
    (w : b.ty.shape.Idx → Val b.ty.elt) :
    (holds c ((Memref.whole b).view.slice (Rect.unit off b.ty.shape.size inb)) w : sProp 𝕄) ⊢ holds c (Memref.whole b).view w := by
  unfold holds
  iintro ⟨%f, %hf, H⟩
  iexists f
  isplitr
  · ipureintro; exact (Memref.read_access_unit_zero Val b h inb f).symm.trans hf
  · rw [set_unit_zero c b h inb]; iexact H

theorem holds_whole_unit (h : off = fun _ => 0) (inb : ∀ a, off a + b.ty.shape.size a ≤ b.ty.shape.size a)
    (w : b.ty.shape.Idx → Val b.ty.elt) :
    (holds c (Memref.whole b).view w : sProp 𝕄) ⊢ holds c ((Memref.whole b).view.slice (Rect.unit off b.ty.shape.size inb)) w := by
  unfold holds
  iintro ⟨%f, %hf, H⟩
  iexists f
  isplitr
  · ipureintro; exact (Memref.read_access_unit_zero Val b h inb f).trans hf
  · rw [set_unit_zero c b h inb]; iexact H

theorem somes_whole_unit (h : off = fun _ => 0) (inb : ∀ a, off a + b.ty.shape.size a ≤ b.ty.shape.size a) :
    (somes c (Memref.whole b).view : sProp 𝕄) ⊢ somes c ((Memref.whole b).view.slice (Rect.unit off b.ty.shape.size inb)) := by
  unfold somes
  rw [set_unit_zero c b h inb]

/-- A whole buffer at contents `f`, as its whole view holds it. -/
theorem whole_holds (f : Buf Val (c.loc b)) : (((Memref.whole b).view.loc c ↦{fullShare} f) : sProp 𝕄) ⊢ holds c (Memref.whole b).view f := by
  unfold holds
  iintro H
  iexists f
  isplitr
  · ipureintro; rfl
  · rw [View.set_whole]; iexact H

theorem holds_whole (f : Buf Val (c.loc b)) : (holds c (Memref.whole b).view f : sProp 𝕄) ⊢ ((Memref.whole b).view.loc c ↦{fullShare} f) := by
  unfold holds
  iintro ⟨%g, %hg, H⟩
  subst hg
  rw [View.set_whole]
  iexact H

theorem somes_whole : (somes c (Memref.whole b).view : sProp 𝕄) = iprop(∃ f : Buf Val (c.loc b), (c.loc b ↦{fullShare} f)) := by
  unfold somes
  rw [View.set_whole]

/-- A whole buffer in three parts: from a cover by three disjoint sets. -/
theorem somes_three {ℓ : Loc nD τ sig} {S₀ S₁ S₂ : Finset (Idx ℓ)} (h01 : Disjoint S₀ S₁) (h2 : Disjoint (S₀ ∪ S₁) S₂)
    (hu : (S₀ ∪ S₁) ∪ S₂ = Finset.univ) :
    (iprop(∃ f : Buf Val ℓ, (ℓ ↦{fullShare} f)) : sProp 𝕄)
      ⊢ iprop((∃ f : Buf Val ℓ, (ℓ ↦[S₀]{fullShare} f)) ∗ (∃ f : Buf Val ℓ, (ℓ ↦[S₁]{fullShare} f)) ∗ (∃ f : Buf Val ℓ, (ℓ ↦[S₂]{fullShare} f))) := by
  iintro ⟨%f, H⟩
  ihave H := (Entails.of_eq (by rw [hu] : (ℓ ↦[Finset.univ]{fullShare} f : sProp 𝕄) = (ℓ ↦[(S₀ ∪ S₁) ∪ S₂]{fullShare} f : sProp 𝕄))) $$ H
  ihave H := (pointsTo_union h2).1 $$ H
  icases H with ⟨H, H2⟩
  ihave H := (pointsTo_union h01).1 $$ H
  icases H with ⟨H0, H1⟩
  isplitl [H0]; · iexists f; iexact H0
  isplitl [H1]; · iexists f; iexact H1
  iexists f; iexact H2

theorem three_somes {ℓ : Loc nD τ sig} {S₀ S₁ S₂ : Finset (Idx ℓ)} (h01 : Disjoint S₀ S₁) (h2 : Disjoint (S₀ ∪ S₁) S₂)
    (hu : (S₀ ∪ S₁) ∪ S₂ = Finset.univ) :
    (iprop((∃ f : Buf Val ℓ, (ℓ ↦[S₀]{fullShare} f)) ∗ (∃ f : Buf Val ℓ, (ℓ ↦[S₁]{fullShare} f)) ∗ (∃ f : Buf Val ℓ, (ℓ ↦[S₂]{fullShare} f))) : sProp 𝕄)
      ⊢ iprop(∃ f : Buf Val ℓ, (ℓ ↦{fullShare} f)) := by
  iintro ⟨⟨%f, H0⟩, ⟨%g, H1⟩, ⟨%h, H2⟩⟩
  ihave H := (pointsTo_join h01) $$ [H0 H1]
  · isplitl [H0]; · iexact H0
    iexact H1
  ihave H := (pointsTo_join h2) $$ [H H2]
  · isplitl [H]; · iexact H
    iexact H2
  rw [hu]
  iexists _
  iexact H

end Whole

end Cert.Steps

end
-- ==== Proof.Protocol.lean ====
/- The kernel's exchange, written down: who is a device's i-th peer, which parts of the buffers travel, what each device
   computes, and for every semaphore who pays it, how much, and what the payment hands over.

   Four devices of a z-line talk. Device c's i-th peer is `peer c i`; at that peer, c is peer number `slot c i`. Each device
   tells its three peers once that it has arrived (barrier semaphore, one unit each, three awaited), and with that unit hands
   the peer the landing places meant for it. Then for each peer: rows of tokens and their tags go out, come in from the peer,
   the answers go back, and the answers to the device's own rows come in. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Steps

@[expose] public section

set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside the exchange's. -/
abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

/-! ## Peers -/

/-- Device `c`'s `i`-th peer: the devices of its z-line other than itself, in order. -/
def peer (c : Dev nD) (i : Fin 3) : Dev nD :=
  ⟨8 * (c.val / 8) + 4 * ((c.val / 4) % 2) + (if c.val % 4 ≤ i.val then 1 else 0) + i.val, by
    have := c.isLt; have := i.isLt; simp only [nD] at *; split <;> omega⟩
/-- Which peer of `peer c i` the device `c` is. -/
def slot (c : Dev nD) (i : Fin 3) : Fin 3 :=
  ⟨if c.val % 4 ≤ i.val then c.val % 4 else c.val % 4 - 1, by have := i.isLt; split <;> omega⟩

theorem peer_peer : ∀ (c : Dev nD) (i : Fin 3), peer (peer c i) (slot c i) = c := by decide +kernel
theorem slot_peer : ∀ (c : Dev nD) (i : Fin 3), slot (peer c i) (slot c i) = i := by decide +kernel

/-- The involution (device, peer number) ↦ (that peer, the device's number there). -/
def swap : Dev nD × Fin 3 ≃ Dev nD × Fin 3 where
  toFun p := (peer p.1 p.2, slot p.1 p.2)
  invFun p := (peer p.1 p.2, slot p.1 p.2)
  left_inv p := Prod.ext (peer_peer _ _) (slot_peer _ _)
  right_inv p := Prod.ext (peer_peer _ _) (slot_peer _ _)

/-! ## The parts of the buffers -/

theorem inb_cx (i : Fin 3) : ∀ a, (![i.val, 0, 0] : Fin 3 → Nat) a + S1x160x512.size a ≤ S3x160x512.size a := by revert i; decide
theorem inb_ca (i : Fin 3) : ∀ a, (![i.val, 0, 0] : Fin 3 → Nat) a + S1x160x1.size a ≤ S3x160x1.size a := by revert i; decide
theorem inb_xin (i : Fin 3) : ∀ a, (![160 * i.val, 0] : Fin 2 → Nat) a + S160x512.size a ≤ S480x512.size a := by revert i; decide
theorem inb_ain (i : Fin 3) : ∀ a, (![160 * i.val, 0] : Fin 2 → Nat) a + S160x1.size a ≤ S480x1.size a := by revert i; decide
theorem inb_sem (i : Fin 3) : ∀ a, (![i.val] : Fin 1 → Nat) a + S1.size a ≤ S3.size a := by revert i; decide

/-- Rows for peer `i`, their tags, rows and tags from peer `i`, answers for peer `i`, answers from peer `i`. -/
abbrev cxR (i : Fin 3) : Rect S3x160x512 := Rect.unit (s := S3x160x512) ![i.val, 0, 0] S1x160x512.size (inb_cx i)
abbrev caR (i : Fin 3) : Rect S3x160x1 := Rect.unit (s := S3x160x1) ![i.val, 0, 0] S1x160x1.size (inb_ca i)
abbrev xinR (i : Fin 3) : Rect S480x512 := Rect.unit (s := S480x512) ![160 * i.val, 0] S160x512.size (inb_xin i)
abbrev ainR (i : Fin 3) : Rect S480x1 := Rect.unit (s := S480x1) ![160 * i.val, 0] S160x1.size (inb_ain i)

abbrev cxM : Memref sig .tc .vmem S3x160x512 .bf16 := Memref.whole cc0_scratch0
abbrev caM : Memref sig .tc .vmem S3x160x1 .bf16 := Memref.whole cc0_scratch1
abbrev xinM : Memref sig .tc .vmem S480x512 .bf16 := Memref.whole cc0_scratch2
abbrev ainM : Memref sig .tc .vmem S480x1 .bf16 := Memref.whole cc0_scratch3
abbrev ansM : Memref sig .tc .vmem S480x512 .bf16 := Memref.whole cc0_scratch4
abbrev backM : Memref sig .tc .vmem S3x160x512 .bf16 := Memref.whole cc0_scratch5
abbrev w1M : Memref sig .tc .vmem S2x512x1024 .bf16 := Memref.whole cc0_scratch6
abbrev w2M : Memref sig .tc .vmem S2x1024x512 .bf16 := Memref.whole cc0_scratch7

abbrev cx (i : Fin 3) : Memref sig .tc .vmem S160x512 .bf16 :=
  (cxM.slice (cxR i) (fun _ => rfl)).squeeze S160x512 squeezes_S1x160x512_S160x512
abbrev ca (i : Fin 3) : Memref sig .tc .vmem S160x1 .bf16 :=
  (caM.slice (caR i) (fun _ => rfl)).squeeze S160x1 squeezes_S1x160x1_S160x1
abbrev xin (i : Fin 3) : Memref sig .tc .vmem S160x512 .bf16 := xinM.slice (xinR i) (fun _ => rfl)
abbrev ain (i : Fin 3) : Memref sig .tc .vmem S160x1 .bf16 := ainM.slice (ainR i) (fun _ => rfl)
abbrev ans (i : Fin 3) : Memref sig .tc .vmem S160x512 .bf16 := ansM.slice (xinR i) (fun _ => rfl)
abbrev back (i : Fin 3) : Memref sig .tc .vmem S160x512 .bf16 :=
  (backM.slice (cxR i) (fun _ => rfl)).squeeze S160x512 squeezes_S1x160x512_S160x512

/-! ## What each device computes -/

/-- Each device's inputs: its tokens, its tokens' tags as a column and as a row, its experts' weights. -/
structure Data (F : FTy → Type) where
  x : Dev nD → Vec F S512x512 .bf16
  a1 : Dev nD → Vec F S512x1 .i32
  a2 : Dev nD → Vec F S1x512 .i32
  w1 : Dev nD → Vec F S2x512x1024 .bf16
  w2 : Dev nD → Vec F S2x1024x512 .bf16

/-- The device's z-coordinate as the program computes it, -/
abbrev wz (c : Dev nD) : BitVec 32 := Scalar.remsi (Scalar.divsi (Dev.word c) 1#32) 4#32
/-- and its peers'. -/
abbrev wp0 (c : Dev nD) : BitVec 32 := Scalar.addi 0#32 (Scalar.extui (Scalar.cmpi .sle (wz c) 0#32))
abbrev wp1 (c : Dev nD) : BitVec 32 := Scalar.addi 1#32 (Scalar.extui (Scalar.cmpi .sle (wz c) 1#32))
abbrev wp2 (c : Dev nD) : BitVec 32 := Scalar.addi 2#32 (Scalar.extui (Scalar.cmpi .sle (wz c) 2#32))
/-- The two coordinates the program also computes. -/
abbrev wx (c : Dev nD) : BitVec 32 := Scalar.remsi (Scalar.divsi (Dev.word c) 8#32) 2#32
abbrev wy (c : Dev nD) : BitVec 32 := Scalar.remsi (Scalar.divsi (Dev.word c) 4#32) 2#32

abbrev rowNo : IVec S160x512 32 := iota .tc S160x512 32 [0] iota_S160x512_d0_w32

variable (D : Data F)

/-- The tokens and tags as the kernel reads them. -/
def toks (c : Dev nD) : FVec F S512x512 .bf16 := k0_pay1 (D.x c)
def tags (c : Dev nD) : FVec F S512x1 .bf16 := k0_pay2 (D.a1 c)
def tagRow (c : Dev nD) : IVec S1x512 32 := k0_pay3 (D.a2 c)

/-- The one-hot rows picking the tokens for peer 0, 1, 2. -/
def pick0 (c : Dev nD) : FVec F S160x512 .bf16 := k0_pay5 (wp0 c) (D.a2 c)
def pick1 (c : Dev nD) : FVec F S160x512 .bf16 := k0_pay9 (wp1 c) (tagRow D c) rowNo (k0_pay4 (F := F))
def pick2 (c : Dev nD) : FVec F S160x512 .bf16 := k0_pay12 (wp2 c) (tagRow D c) rowNo (k0_pay4 (F := F))

/-- The rows and the tags for each peer, as stored. -/
def rows3 (c : Dev nD) : Fin 3 → FVec F S1x160x512 .bf16
  | 0 => k0_pay7 (k0_pay6 (wp0 c) (D.x c) (D.a2 c))
  | 1 => k0_pay10 (wp1 c) (toks D c) (tagRow D c) rowNo (k0_pay4 (F := F))
  | 2 => k0_pay14 (k0_pay13 (wp2 c) (toks D c) (tagRow D c) rowNo (k0_pay4 (F := F)))
def rtag3 (c : Dev nD) : Fin 3 → FVec F S1x160x1 .bf16
  | 0 => k0_pay8 (tags D c) (pick0 D c)
  | 1 => k0_pay11 (wp1 c) (tags D c) (tagRow D c) rowNo (k0_pay4 (F := F))
  | 2 => k0_pay15 (tags D c) (pick2 D c)

/-- The same without the leading axis of length one: what travels. -/
def rows (c : Dev nD) (i : Fin 3) : FVec F S160x512 .bf16 := fun x => rows3 D c i (Shape.reshapeEquiv squeezes_S1x160x512_S160x512.numel_eq x)
def rtag (c : Dev nD) (i : Fin 3) : FVec F S160x1 .bf16 := fun x => rtag3 D c i (Shape.reshapeEquiv squeezes_S1x160x1_S160x1.numel_eq x)

/-- Rows and tags that come in from peer `i`. -/
def got (c : Dev nD) (i : Fin 3) : FVec F S160x512 .bf16 := rows D (peer c i) (slot c i)
def gotTag (c : Dev nD) (i : Fin 3) : FVec F S160x1 .bf16 := rtag D (peer c i) (slot c i)

/-- Each expert's weights. -/
def wA (c : Dev nD) : Vec F S2x512x1024 .bf16 := k0_pay16 (D.w1 c)
def wB (c : Dev nD) : Vec F S2x1024x512 .bf16 := k0_pay17 (D.w2 c)
def wA0 (c : Dev nD) : Vec F S1x512x1024 .bf16 :=
  fun x => wA D c ((Rect.unit (s := S2x512x1024) ![0, 0, 0] S1x512x1024.size inb_S2x512x1024_S1x512x1024_0_0_0).emb x)
def wA1 (c : Dev nD) : Vec F S1x512x1024 .bf16 :=
  fun x => wA D c ((Rect.unit (s := S2x512x1024) ![1, 0, 0] S1x512x1024.size inb_S2x512x1024_S1x512x1024_1_0_0).emb x)
def wB0 (c : Dev nD) : Vec F S1x1024x512 .bf16 :=
  fun x => wB D c ((Rect.unit (s := S2x1024x512) ![0, 0, 0] S1x1024x512.size inb_S2x1024x512_S1x1024x512_0_0_0).emb x)
def wB1 (c : Dev nD) : Vec F S1x1024x512 .bf16 :=
  fun x => wB D c ((Rect.unit (s := S2x1024x512) ![1, 0, 0] S1x1024x512.size inb_S2x1024x512_S1x1024x512_1_0_0).emb x)

/-- The device's experts on its own tokens. -/
def own (c : Dev nD) : FVec F S512x512 .f32 :=
  k0_pay21 (wz c) (toks D c) (tags D c) (k0_pay18 (F := F)) (k0_pay19 (wz c) (toks D c) (tags D c) (wA0 D c)) (k0_pay20 (F := F))
    (wB0 D c) (wA1 D c) (wB1 D c)

/-- The device's experts on the rows of each peer. -/
def answer (c : Dev nD) : Fin 3 → FVec F S160x512 .bf16
  | 0 => k0_pay24 (wz c) (got D c 0) (gotTag D c 0) (k0_pay22 (F := F)) (k0_pay23 (wz c) (got D c 0) (gotTag D c 0) (wA0 D c))
      (wB0 D c) (wA1 D c) (wB1 D c)
  | 1 => k0_pay28 (got D c 1) (k0_pay25 (wz c) (got D c 1) (gotTag D c 1) (wA0 D c) (wB0 D c)) (k0_pay26 (F := F))
      (k0_pay27 (wz c) (gotTag D c 1)) (wA1 D c) (wB1 D c)
  | 2 => k0_pay33 (k0_pay32 (wz c) (got D c 2) (gotTag D c 2) (k0_pay29 (F := F)) (k0_pay30 (F := F)) (k0_pay31 (wz c) (gotTag D c 2))
      (wA0 D c) (wB0 D c) (wA1 D c) (wB1 D c))

/-- The answers that come back from peer `i`, and as they are read. -/
def reply (c : Dev nD) (i : Fin 3) : FVec F S160x512 .bf16 := answer D (peer c i) (slot c i)
def reply3 (c : Dev nD) (i : Fin 3) : FVec F S1x160x512 .bf16 :=
  fun x => reply D c i ((Shape.reshapeEquiv squeezes_S1x160x512_S160x512.numel_eq).symm x)

/-- The result. -/
def result (c : Dev nD) : FVec F S512x512 .f32 :=
  k0_pay37 (pick2 D c) (k0_pay35 (pick1 D c) (k0_pay34 (pick0 D c) (own D c) (reply3 D c 0)) (reply3 D c 1)) (k0_pay36 (reply3 D c 2))
    (constant S512x512 .f32 0x00000000#32)

/-! ## The cells -/

abbrev barS : Sem sig := (SemArray.scalar (sig.barrier 0 rfl) : Sems sig S_).sem
/-- The kernel's own semaphores: `a` = 0 rows sent, 1 rows received, 2 tags sent, 3 tags received, 4 answers sent, 5 answers
    received; `i` the peer. -/
abbrev dsem (a : Fin 6) (i : Fin 3) : DmaSem sig := ⟨6 + 3 * a.val + i.val, by have := a.isLt; have := i.isLt; show _ < 24; omega⟩

abbrev Kind : Type := Option (Fin 6 × Fin 3)
abbrev osem : Kind → SemLoc sig
  | none => .reg barS
  | some p => .dma (dsem p.1 p.2)
def kindOf : SemLoc sig → Option Kind
  | .reg s => if s = barS then some none else none
  | .dma d => if h : 6 ≤ d.val then some (some (⟨(d.val - 6) / 3, by have : d.val < 24 := d.isLt; omega⟩, ⟨(d.val - 6) % 3, Nat.mod_lt _ (by decide)⟩)) else none
theorem kindOf_osem : ∀ k : Kind, kindOf (osem k) = some k
  | none => by show (if barS = barS then some none else none) = _; exact if_pos rfl
  | some p => by
    have key : ∀ (a : Fin 6) (i : Fin 3), kindOf (.dma (dsem a i)) = some (some (a, i)) := by decide +kernel
    exact key p.1 p.2
theorem osem_inj : Function.Injective osem := fun a b h =>
  Option.some.inj ((kindOf_osem a).symm.trans ((congrArg kindOf h).trans (kindOf_osem b)))

abbrev cell (c : Dev nD) (k : Kind) : GSem nD τ sig := ((c : Thread nD τ), osem k)
abbrev bar (c : Dev nD) : GSem nD τ sig := ((c : Thread nD τ), .reg barS)
abbrev dcell (c : Dev nD) (a : Fin 6) (i : Fin 3) : GSem nD τ sig := ((c : Thread nD τ), .dma (dsem a i))

/-- How much a transfer of rows and a transfer of tags counts. -/
abbrev NX : ℕ := (xin 0).view.dmaCredit
abbrev NA : ℕ := (ain 0).view.dmaCredit
theorem NX_pos : 0 < NX := View.dmaCredit_pos _ (by decide)
theorem NA_pos : 0 < NA := View.dmaCredit_pos _ (by decide)
def amt : Fin 6 → ℕ
  | 0 => NX | 1 => NX | 2 => NA | 3 => NA | 4 => NX | 5 => NX
theorem amt_pos : ∀ a, 0 < amt a := by
  intro a; fin_cases a
  exacts [NX_pos, NX_pos, NA_pos, NA_pos, NX_pos, NX_pos]

/-! ## What the payments hand over -/

/-- With its unit on device `c`'s barrier semaphore, peer `j` hands over its landing places for `c`, and that its cells for
    these landings are in place. -/
def barPay (c : Dev nD) (j : Fin 3) : sProp 𝕄 :=
  iprop(somes (peer c j : Thread nD τ) (xin (slot c j)).view ∗ somes (peer c j : Thread nD τ) (ain (slot c j)).view
    ∗ somes (peer c j : Thread nD τ) (back (slot c j)).view
    ∗ reached ER (dcell (peer c j) 1 (slot c j)) 0 ∗ reached ER (dcell (peer c j) 3 (slot c j)) 0
    ∗ reached ER (dcell (peer c j) 5 (slot c j)) 0)

/-- A transfer hands over, to its sender the source back, to its receiver the landing place filled. -/
def dmaPay (c : Dev nD) (a : Fin 6) (i : Fin 3) : sProp 𝕄 :=
  match a with
  | 0 => holds (c : Thread nD τ) (cx i).view (rows D c i)
  | 1 => holds (c : Thread nD τ) (xin i).view (got D c i)
  | 2 => holds (c : Thread nD τ) (ca i).view (rtag D c i)
  | 3 => holds (c : Thread nD τ) (ain i).view (gotTag D c i)
  | 4 => holds (c : Thread nD τ) (ans i).view (answer D c i)
  | 5 => holds (c : Thread nD τ) (back i).view (reply D c i)

instance barPay_storable (c : Dev nD) (j : Fin 3) : BI.Storable (upEmb : UEmb _ 𝕄) (barPay (F := F) c j) := by
  unfold barPay; infer_instance
instance dmaPay_storable (c : Dev nD) (a : Fin 6) (i : Fin 3) : BI.Storable (upEmb : UEmb _ 𝕄) (dmaPay D c a i) := by
  unfold dmaPay; split <;> infer_instance

def kindAmt : Option Kind → ℕ
  | some (some p) => amt p.1
  | _ => 1
def kindPay (c : Dev nD) (d : Fin 3) : Option Kind → sProp 𝕄
  | some (some p) => dmaPay D c p.1 p.2
  | some none => barPay c d
  | none => iprop(emp)
def kindDuties : Option Kind → Finset (Fin 3)
  | some (some _) => {0}
  | some none => Finset.univ
  | none => ∅

/-- One round: three duties on every barrier cell, one on each of the others. -/
def sched : Rounds.Schedule (GSem nD τ sig) (Fin 3) 𝕄 where
  duties g r := if r = 0 ∧ g.1.2 = .tc then kindDuties (kindOf g.2) else ∅
  unitless _ := False
  amount g _ _ := kindAmt (kindOf g.2)
  payload g _ d := kindPay D g.1.1 d (kindOf g.2)
  amount_pos g _ _ _ := by
    unfold kindAmt; split
    · exact amt_pos _
    · exact Nat.one_pos

instance sched_storable (g : GSem nD τ sig) (r : ℕ) (d : Fin 3) :
    BI.Storable (upEmb : UEmb _ 𝕄) ((sched D).payload g r d) := by
  show BI.Storable upEmb (kindPay D g.1.1 d (kindOf g.2))
  unfold kindPay; split <;> infer_instance

section Table

variable (c : Dev nD) (a : Fin 6) (i : Fin 3)

theorem kind_bar : kindOf (.reg barS) = some none := kindOf_osem none
theorem kind_dma : kindOf (.dma (dsem a i)) = some (some (a, i)) := kindOf_osem (some (a, i))

theorem duties_bar : (sched D).duties (bar c) 0 = Finset.univ := by
  dsimp only [sched]; rw [if_pos ⟨rfl, rfl⟩, kind_bar]; rfl
theorem duties_dma : (sched D).duties (dcell c a i) 0 = {0} := by
  dsimp only [sched]; rw [if_pos ⟨rfl, rfl⟩, kind_dma]; rfl
theorem duties_later (g : GSem nD τ sig) : ∀ r, 1 ≤ r → (sched D).duties g r = ∅ := fun r hr => by
  dsimp only [sched]; rw [if_neg (fun h => by omega)]
theorem amount_bar (d : Fin 3) : (sched D).amount (bar c) 0 d = 1 := by dsimp only [sched]; rw [kind_bar]; rfl
theorem amount_dma (d : Fin 3) : (sched D).amount (dcell c a i) 0 d = amt a := by dsimp only [sched]; rw [kind_dma]; rfl
theorem payload_bar (d : Fin 3) : (sched D).payload (bar c) 0 d = barPay c d := by dsimp only [sched]; rw [kind_bar]; rfl
theorem payload_dma (d : Fin 3) : (sched D).payload (dcell c a i) 0 d = dmaPay D c a i := by dsimp only [sched]; rw [kind_dma]; rfl

theorem expect_bar : (sched D).expect (bar c) 0 = 3 := by
  unfold Schedule.expect Schedule.amountOf
  rw [duties_bar, Finset.sum_congr rfl (fun d _ => amount_bar D c d)]; rfl
theorem expect_dma : (sched D).expect (dcell c a i) 0 = amt a := by
  unfold Schedule.expect Schedule.amountOf
  rw [duties_dma, Finset.sum_singleton, amount_dma]
theorem rest_dma : bigSep ((sched D).duties (dcell c a i) 0 \ ∅) (fun d => (sched D).payload (dcell c a i) 0 d) = dmaPay D c a i := by
  rw [Finset.sdiff_empty, duties_dma, bigSep_singleton, payload_dma]
theorem rest_bar : bigSep ((sched D).duties (bar c) 0 \ ∅) (fun d => (sched D).payload (bar c) 0 d) = bigSep Finset.univ (fun d => barPay (F := F) c d) := by
  rw [Finset.sdiff_empty, duties_bar]
  exact congrArg (bigSep Finset.univ) (funext fun d => payload_bar D c d)

end Table

/-! ## What each device owes, and the levels -/

/-- The payments device `c` owes others, last first. -/
def dueCell (c : Dev nD) : ℕ → GSem nD τ sig
  | 0 => dcell (peer c 2) 5 (slot c 2)
  | 1 => dcell (peer c 1) 5 (slot c 1)
  | 2 => dcell (peer c 0) 5 (slot c 0)
  | 3 => dcell (peer c 2) 3 (slot c 2)
  | 4 => dcell (peer c 2) 1 (slot c 2)
  | 5 => dcell (peer c 1) 3 (slot c 1)
  | 6 => dcell (peer c 1) 1 (slot c 1)
  | 7 => dcell (peer c 0) 3 (slot c 0)
  | 8 => dcell (peer c 0) 1 (slot c 0)
  | 9 => bar (peer c 2)
  | 10 => bar (peer c 1)
  | _ => bar (peer c 0)
def dueAmt : ℕ → ℕ
  | 0 => NX | 1 => NX | 2 => NX
  | 3 => NA | 4 => NX | 5 => NA | 6 => NX | 7 => NA | 8 => NX
  | _ => 1
def owe (c : Dev nD) : ℕ → CellTallies nD τ sig Unit
  | 0 => 0
  | k + 1 => owe c k + tallyAt (dueCell c k) () (dueAmt k)

def L (g : GSem nD τ sig) : Finset Unit := if g.1.2 = .tc then {()} else ∅
/-- What is waited for first lies lower: own sends, the barrier, rows and tags, answers. -/
def kindLv : Option Kind → ℕ
  | some none => 1
  | some (some p) => if p.1 = 1 ∨ p.1 = 3 then 2 else if p.1 = 5 then 3 else 0
  | none => 0
def lv (g : GSem nD τ sig) (_ : Unit) : ℕ := kindLv (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- What is still owed when `n` payments are left lies on a TensorCore, at a level of at least `b` if the last `n` do. -/
theorem owe_pos (c : Dev nD) (n : ℕ) (g : GSem nD τ sig) (u : Unit) (h : 0 < owe c n g u) :
    ∃ k < n, g = dueCell c k := by
  induction n with
  | zero => exact absurd h (Nat.lt_irrefl 0)
  | succ n ih =>
    have h' : 0 < owe c n g u + tallyAt (dueCell c n) () (dueAmt n) g u := h
    by_cases hn : 0 < owe c n g u
    · obtain ⟨k, hk, e⟩ := ih hn; exact ⟨k, Nat.lt_succ_of_lt hk, e⟩
    · rw [Nat.eq_zero_of_not_pos hn, Nat.zero_add, tallyAt_apply] at h'
      by_cases e : g = dueCell c n ∧ u = ()
      · exact ⟨n, Nat.lt_succ_self n, e.1⟩
      · rw [if_neg e] at h'; exact absurd h' (Nat.lt_irrefl 0)

theorem due_tc (c : Dev nD) (k : ℕ) : (dueCell c k).1.2 = .tc := by unfold dueCell; split <;> rfl

def dueLv : ℕ → ℕ
  | 0 => 3 | 1 => 3 | 2 => 3
  | 3 => 2 | 4 => 2 | 5 => 2 | 6 => 2 | 7 => 2 | 8 => 2
  | _ => 1
theorem due_lv (c : Dev nD) (k : ℕ) : lv (dueCell c k) () = dueLv k := by
  have hb : ∀ d : Dev nD, lv (bar d) () = 1 := fun d => by unfold lv; rw [kind_bar]; rfl
  have hd : ∀ (d : Dev nD) (a : Fin 6) (i : Fin 3), lv (dcell d a i) () = kindLv (some (some (a, i))) := fun d a i => by
    unfold lv; rw [kind_dma]
  match k with
  | 0 | 1 | 2 | 3 | 4 | 5 | 6 | 7 | 8 => exact hd _ _ _
  | 9 | 10 | _ + 11 => exact hb _

/-- The levels, on record. -/
def levs (F : FTy → Type) [FloatOps F] : sProp (MT nD τ sig Unit (Elt F) ℕ UU ℕ) := levAts L lv
instance levs_persistent : BI.Persistent (levs F) := by unfold levs; infer_instance
theorem levs_eq : levs F = (levAts L lv : sProp 𝕄) := rfl
attribute [irreducible] levs

theorem mayWait (c : Dev nD) (sm : SemLoc sig) (n : ℕ) (h : ∀ k < n, kindLv (kindOf sm) < dueLv k) :
    levs F ⊢ MayWait (c : Thread nD τ) sm () (owe c n) :=
  levs_eq (F := F) ▸ MayOwe.of_cut (L := L) (lev := lv) (kindLv (kindOf sm))
    (fun p hp => by rw [Finset.mem_singleton.mp hp, L_tc]; exact Finset.mem_singleton_self _)
    (fun g u hg => by
      obtain ⟨k, -, rfl⟩ := owe_pos c n g u hg
      show u ∈ L (dueCell c k)
      unfold L; rw [if_pos (due_tc c k)]; exact Finset.mem_singleton_self _)
    (fun p hp => by rw [Finset.mem_singleton.mp hp]; exact le_refl _)
    (fun g u hg => by
      obtain ⟨k, hk, rfl⟩ := owe_pos c n g u hg
      rw [due_lv]; exact h k hk)

theorem mayWait_bar (c : Dev nD) : levs F ⊢ MayWait (c : Thread nD τ) (.reg barS) () (owe c 9) :=
  mayWait c _ 9 (by rw [kind_bar]; decide)
theorem mayWait_dma (c : Dev nD) (a : Fin 6) (i : Fin 3) (n : ℕ) (h : ∀ k < n, kindLv (some (some (a, i))) < dueLv k) :
    levs F ⊢ MayWait (c : Thread nD τ) (.dma (dsem a i)) () (owe c n) :=
  mayWait c _ n (by rw [kind_dma]; exact h)

/-! ## The records every device keeps -/

/-- The invariants of all cells, at the names `K`, that every barrier cell is in place, and the levels. -/
def sky (K : GSem nD τ sig → ℕ) : sProp 𝕄 :=
  iprop((bigSep Finset.univ fun p : Dev nD × Kind => cellInv ER (sched D) (K (cell p.1 p.2)) (cell p.1 p.2))
    ∗ (bigSep Finset.univ fun c : Dev nD => reached ER (bar c) 0) ∗ levs F)

instance sky_persistent (K : GSem nD τ sig → ℕ) : BI.Persistent (sky D K) := by unfold sky; infer_instance

theorem sky_inv (K : GSem nD τ sig → ℕ) (c : Dev nD) (k : Kind) : sky D K ⊢ cellInv ER (sched D) (K (cell c k)) (cell c k) := by
  unfold sky
  iintro ⟨H, -, -⟩
  iapply (show (bigSep Finset.univ fun p : Dev nD × Kind => cellInv ER (sched D) (K (cell p.1 p.2)) (cell p.1 p.2))
    ⊢ cellInv ER (sched D) (K (cell c k)) (cell c k) from BI.bigSep_elim (Finset.mem_univ (c, k))) $$ H

theorem sky_bar (K : GSem nD τ sig → ℕ) (c : Dev nD) : sky D K ⊢ (reached ER (bar c) 0 : sProp 𝕄) := by
  unfold sky
  iintro ⟨-, H, -⟩
  iapply (show (bigSep Finset.univ fun c : Dev nD => (reached ER (bar c) 0 : sProp 𝕄)) ⊢ reached ER (bar c) 0 from
    BI.bigSep_elim (Finset.mem_univ c)) $$ H

theorem sky_lev (K : GSem nD τ sig → ℕ) : sky D K ⊢ levs F := by
  unfold sky
  iintro ⟨-, -, H⟩
  iexact H

end Cert.KernelIdeal.Moe

end
-- ==== Proof.Talk.lean ====
/- The steps of the kernel's exchange in the protocol's terms: a signal, the barrier wait, a transfer to a peer, a wait on one
   of the device's own transfer semaphores; and that the device numbers and offsets the program computes are the protocol's. -/
module

public import proofs.«01_k».proof.Proof.Protocol
public import Idealize.ShloMosaic.Lib.VecWindow

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Addresses -/

theorem dev_eq (f : Dev nD → ℕ) (hf : ∀ c, f c < nD) (i : Fin 3)
    (h : ∀ c : Dev nD, f c = 8 * (c.val / 8) + 4 * ((c.val / 4) % 2) + (if c.val % 4 ≤ i.val then 1 else 0) + i.val) (c : Dev nD) :
    (⟨f c, hf c⟩ : Dev nD) = peer c i := Fin.ext (h c)

theorem off1_at (i : Fin 3) : ∀ c : Dev nD, k0_off1 c (k0_off1_at i).1 (k0_off1_at i).2 = ![(slot c i).val] := by
  revert i; decide +kernel
theorem off2_at (i : Fin 3) : ∀ c : Dev nD, k0_off2 c (k0_off2_at i).1 (k0_off2_at i).2 = ![160 * (slot c i).val, 0] := by
  revert i; decide +kernel
theorem off3_at (i : Fin 3) : ∀ c : Dev nD, k0_off3 c (k0_off3_at i).1 (k0_off3_at i).2 = ![160 * (slot c i).val, 0] := by
  revert i; decide +kernel
theorem off4_at (i : Fin 3) : ∀ c : Dev nD, k0_off4 c (k0_off4_at i).1 (k0_off4_at i).2 = ![(slot c i).val, 0, 0] := by
  revert i; decide +kernel

/-- The landing places the program addresses at peer `i`. -/
theorem xin_at (c : Dev nD) (i : Fin 3) :
    xinM.slice (Rect.unit (s := S480x512) (k0_off2 c (k0_off2_at i).1 (k0_off2_at i).2) S160x512.size (k0_off2_inb c i)) (fun _ => rfl)
      = xin (slot c i) :=
  Memref.slice_unit_congr _ (off2_at i c) _ _ _ fun _ => rfl
theorem ain_at (c : Dev nD) (i : Fin 3) :
    ainM.slice (Rect.unit (s := S480x1) (k0_off3 c (k0_off3_at i).1 (k0_off3_at i).2) S160x1.size (k0_off3_inb c i)) (fun _ => rfl)
      = ain (slot c i) :=
  Memref.slice_unit_congr _ (off3_at i c) _ _ _ fun _ => rfl
theorem back_at (c : Dev nD) (i : Fin 3) :
    (backM.slice (Rect.unit (s := S3x160x512) (k0_off4 c (k0_off4_at i).1 (k0_off4_at i).2) S1x160x512.size (k0_off4_inb c i)) (fun _ => rfl)).squeeze
        S160x512 squeezes_S1x160x512_S160x512
      = back (slot c i) :=
  congrArg (fun m : Memref sig .tc .vmem S1x160x512 .bf16 => m.squeeze S160x512 squeezes_S1x160x512_S160x512)
    (Memref.slice_unit_congr _ (off4_at i c) _ _ _ fun _ => rfl)

/-- The semaphores the program addresses at peer `i`: of an array of three, the one at the device's number there. -/
theorem sem_at (A : DmaSems sig S3) (c : Dev nD) (i : Fin 3) :
    ((A.slice (Rect.unit (s := S3) (k0_off1 c (k0_off1_at i).1 (k0_off1_at i).2) S1.size (k0_off1_inb c i))).squeeze S_ squeezes_S1_S_).sem
      = ((A.slice (Rect.unit (s := S3) ![(slot c i).val] S1.size (inb_sem (slot c i)))).squeeze S_ squeezes_S1_S_).sem :=
  congrArg (fun a : DmaSems sig S1 => (a.squeeze S_ squeezes_S1_S_).sem) (SemArray.slice_unit_congr _ (off1_at i c) _ _)

abbrev semOf (A : DmaSems sig S3) (i : Fin 3) : DmaSem sig :=
  ((A.slice (Rect.unit (s := S3) ![i.val] S1.size (inb_sem i))).squeeze S_ squeezes_S1_S_).sem
theorem sem_sendX : ∀ i, semOf cc0_scratch8 i = dsem 0 i := by decide +kernel
theorem sem_recvX : ∀ i, semOf cc0_scratch9 i = dsem 1 i := by decide +kernel
theorem sem_sendA : ∀ i, semOf cc0_scratch10 i = dsem 2 i := by decide +kernel
theorem sem_recvA : ∀ i, semOf cc0_scratch11 i = dsem 3 i := by decide +kernel
theorem sem_send3 : ∀ i, semOf cc0_scratch12 i = dsem 4 i := by decide +kernel
theorem sem_recv3 : ∀ i, semOf cc0_scratch13 i = dsem 5 i := by decide +kernel

/-! ## Whole loads and stores -/

section Whole

variable (c : Thread nD τ) {s : Shape} {e : EltTy} {α : Type} {Q : α → sProp (MT nD τ sig Unit (Elt F) ℕ UU ℕ)}

theorem load_whole {m : Memref sig c.2.kind .vmem s e} {off : Fin s.rank → Nat} (h : off = fun _ => 0)
    {inb : ∀ a, off a + s.size a ≤ s.size a} {hl : m.view.LoadsAt (Rect.unit off s.size inb)}
    {k : ((Rect.unit off s.size inb).shape.Idx → Elt F e) → Prog (TpuEff nD τ sig (Elt F) Λ₀ c.2) α} (w : s.Idx → Elt F e) :
    (holds c m.view w : sProp 𝕄)
      ⊢ iprop(((holds c m.view w) -∗ wp frame (wpE (defs₀ (F := F)) 𝒱₀ c none) Set.univ (k w) Q)
        -∗ wp frame (wpE (defs₀ (F := F)) 𝒱₀ c none) Set.univ (.op (.load m (Rect.unit off s.size inb) hl) k) Q) := by
  have h' : (fun x => w ((Rect.unit off s.size inb).emb x)) = w := funext fun x => congrArg w (Rect.emb_unit_full inb x)
  have key := load_holds (Q := Q) c (defs := defs₀ (F := F)) 𝒱₀ none Set.univ (hl := hl) (k := k) w
  rw [h'] at key
  exact key

end Whole

variable (D : Data F) (K : GSem nD τ sig → ℕ)

theorem sky_wait {c : Dev nD} {sm : SemLoc sig} {O : CellTallies nD τ sig Unit}
    (h : levs F ⊢ MayWait (c : Thread nD τ) sm () O) : sky D K ⊢ MayWait (c : Thread nD τ) sm () O :=
  BIBase.Entails.trans (sky_lev D K) h

/-- What is owed when `n` payments are left, whatever waits are on record. -/
def owing (c : Dev nD) (n : ℕ) : sProp 𝕄 := iprop(∃ W : Waits sig Unit, owes (c : Thread nD τ) (owe c n) W)

variable {α : Type} {Q : α → sProp (MT nD τ sig Unit (Elt F) ℕ UU ℕ)}

/-- The signal to peer `i`: its landing places for that peer go with it. -/
theorem signal_step (c n : Dev nD) (i : Fin 3) (hn : n = peer c i) (k : ℕ) (hc : dueCell c k = bar (peer c i)) (hk : dueAmt k = 1)
    {kk : PUnit → Prog (TpuEff nD τ sig (Elt F) Λ₀ .tc) α} :
    iprop(sky D K ∗ owing c (k + 1) ∗ dutyTok ER (bar (peer c i)) 0 (slot c i)
        ∗ somes (c : Thread nD τ) (xin i).view ∗ somes (c : Thread nD τ) (ain i).view ∗ somes (c : Thread nD τ) (back i).view
        ∗ reached ER (dcell c 1 i) 0 ∗ reached ER (dcell c 3 i) 0 ∗ reached ER (dcell c 5 i) 0)
      ⊢ iprop((owing (F := F) c k -∗ wp frame (wpE (defs₀ (F := F)) 𝒱₀ (c : Thread nD τ) none) Set.univ (kk ⟨⟩) Q)
        -∗ wp frame (wpE (defs₀ (F := F)) 𝒱₀ (c : Thread nD τ) none) Set.univ
            (.op (.semSignal (Dev.tc n) barS 1) kk) Q) := by
  subst hn
  unfold owing
  iintro ⟨#Hsky, ⟨%W, HO⟩, Ht, Hx, Ha, Hb, #H1, #H3, #H5⟩ Hk
  iapply (Rounds.wp_signal 𝒱₀ ER (sched D) (c : Thread nD τ) none (dst := (peer c i : Thread nD τ)) (sem := barS) (r := 0) (d := slot c i)
      (κ := K (cell (peer c i) none)) (by rw [duties_bar]; exact Finset.mem_univ _) (amount_bar D (peer c i) (slot c i)) () (owe c k)
      (by show owe c k + tallyAt (dueCell c k) () (dueAmt k) = _; rw [hc, hk]) (W := W)) $$ [HO Ht Hx Ha Hb]
  · isplitr; · iapply (sky_inv D K (peer c i) none); iexact Hsky
    isplitl [HO]; · iexact HO
    isplitl [Ht]; · iexact Ht
    isplitl [Hx Ha Hb]
    · rw [payload_bar]; unfold barPay; rw [peer_peer, slot_peer]
      isplitl [Hx]; · iexact Hx
      isplitl [Ha]; · iexact Ha
      isplitl [Hb]; · iexact Hb
      isplitr; · iexact H1
      isplitr; · iexact H3
      iexact H5
    · iapply (sky_bar D K (peer c i)); iexact Hsky
  iintro HO
  iapply Hk
  iexists W; iexact HO

/-- The barrier wait: each peer's landing places for this device. -/
theorem barrier_step (c : Dev nD) {kk : PUnit → Prog (TpuEff nD τ sig (Elt F) Λ₀ .tc) α} :
    iprop(sky D K ∗ cred (tallyAt (bar c) () 3) ∗ owing c 9 ∗ atPos ER (bar c) 0 ∅ 0)
      ⊢ iprop(((owing (F := F) c 9 ∗ atPos ER (bar c) 1 ∅ 0 ∗ barPay c 0 ∗ barPay c 1 ∗ barPay c 2)
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS 3) kk) Q) := by
  unfold owing
  iintro ⟨#Hsky, Hc, ⟨%W, HO⟩, Hat⟩ Hk
  iapply (Rounds.wp_wait_rest_token 𝒱₀ ER (sched D) (c : Thread nD τ) none (κ := K (cell c none))
      (wpE_semWait_eq 𝒱₀ (c : Thread nD τ) none Set.univ) (Set.mem_univ _) () (O := owe c 9) (W := W) (R := 0) (m := 0) (T := ∅)
      ((Nat.zero_add 3).trans (expect_bar D c).symm)) $$ [Hc HO Hat]
  · isplitr; · iapply (sky_inv D K c none); iexact Hsky
    isplitl [Hc]; · iexact Hc
    isplitl [HO]; · iexact HO
    isplitr; · iapply (sky_wait D K (mayWait_bar c)); iexact Hsky
    iexact Hat
  iintro ⟨HO, Hat, -, Hpay⟩
  ihave Hp := (Entails.of_eq ((rest_bar D c).trans (Ring.bigSep_fin3 _))) $$ Hpay
  iapply Hk
  isplitl [HO]; · iexists _; iexact HO
  isplitl [Hat]; · iexact Hat
  iexact Hp

/-- A wait on an own transfer semaphore: what the transfer hands over. -/
theorem wait_step (c : Dev nD) (a : Fin 6) (i : Fin 3) (n : ℕ) (hl : ∀ k < n, kindLv (some (some (a, i))) < dueLv k)
    {sm : DmaSem sig} (hs : sm = dsem a i) {spS : Space} {sS s : Shape} {eS e : EltTy} {src : Memref sig .tc spS sS eS} {dst : Memref sig .tc .vmem s e}
    {hsrc : src.view.WordExact} {hdst : dst.view.WordExact} (hN : dst.view.dmaCredit = amt a)
    {kk : PUnit → Prog (TpuEff nD τ sig (Elt F) Λ₀ .tc) α} :
    iprop(sky D K ∗ cred (tallyAt (dcell c a i) () (amt a)) ∗ owing c n ∗ atPos ER (dcell c a i) 0 ∅ 0)
      ⊢ iprop(((owing (F := F) c n ∗ atPos ER (dcell c a i) 1 ∅ 0 ∗ dmaPay D c a i)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  subst hs
  unfold owing
  rw [← hN]
  iintro ⟨#Hsky, Hc, ⟨%W, HO⟩, Hat⟩ Hk
  iapply (Rounds.wp_wait_rest_token 𝒱₀ ER (sched D) (c : Thread nD τ) none (κ := K (cell c (some (a, i))))
      (wpE_waitDma2_eq (src := src) (dst := dst) 𝒱₀ (c : Thread nD τ) none Set.univ) (Set.mem_univ _) () (O := owe c n) (W := W) (R := 0) (m := 0) (T := ∅)
      ((Nat.zero_add _).trans (hN.trans (expect_dma D c a i).symm))) $$ [Hc HO Hat]
  · isplitr; · iapply (sky_inv D K c (some (a, i))); iexact Hsky
    isplitl [Hc]; · iexact Hc
    isplitl [HO]; · iexact HO
    isplitr; · iapply (sky_wait D K (mayWait_dma c a i n hl)); iexact Hsky
    iexact Hat
  iintro ⟨HO, Hat, -, Hpay⟩
  ihave Hp := (Entails.of_eq (rest_dma D c a i)) $$ Hpay
  iapply Hk
  isplitl [HO]; · iexists _; iexact HO
  isplitl [Hat]; · iexact Hat
  iexact Hp

/-- A transfer to peer `i`. -/
theorem send_step (c n : Dev nD) (i : Fin 3) (hn : n = peer c i) (a b : Fin 6) (k : ℕ)
    (hc : dueCell c k = dcell (peer c i) b (slot c i)) (hk : dueAmt k = amt a) (hab : amt b = amt a)
    {s : Shape} {src dst : Memref sig .tc .vmem s .bf16} (src' dst' : Memref sig .tc .vmem s .bf16) (hs : src = src') (hd : dst = dst')
    {sS sR : DmaSem sig} (hsS : sS = dsem a i) (hsR : sR = dsem b (slot c i)) (hN : dst'.view.dmaCredit = amt a)
    (w : s.Idx → Elt F .bf16)
    (h1 : (holds (c : Thread nD τ) src'.view w : sProp 𝕄) ⊢ dmaPay D c a i)
    (h2 : (holds (peer c i : Thread nD τ) dst'.view w : sProp 𝕄) ⊢ dmaPay D (peer c i) b (slot c i))
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem s .bf16) (.dma sS) hsc)}
    {kk : PUnit → Prog (TpuEff nD τ sig (Elt F) Λ₀ .tc) α} :
    iprop(sky D K ∗ holds (c : Thread nD τ) src'.view w ∗ somes (peer c i : Thread nD τ) dst'.view ∗ owing c (k + 1)
        ∗ dutyTok ER (dcell c a i) 0 0 ∗ reached ER (dcell c a i) 0
        ∗ dutyTok ER (dcell (peer c i) b (slot c i)) 0 0 ∗ reached ER (dcell (peer c i) b (slot c i)) 0)
      ⊢ iprop(((cred (tallyAt (dcell c a i) () (amt a)) ∗ owing (F := F) c k)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kk) Q) := by
  subst hn hs hd hsS hsR
  unfold owing
  iintro ⟨#Hsky, Hs, Hd, ⟨%W, HO⟩, HtS, HrS, HtR, HrR⟩ Hk
  unfold holds somes
  icases Hs with ⟨%fs, %hfs, Hs⟩
  icases Hd with ⟨%fd, Hd⟩
  iapply (Rounds.wp_send_pointsTo 𝒱₀ ER (sched D) (c : Thread nD τ) none (c' := (peer c i : Thread nD τ)) (src := src) (dst := dst)
      (sS := .dma (dsem a i)) (sem := .dma (dsem b (slot c i))) (q := fullShare) (fs := fs) (fd := fd)
      (κ₁ := K (cell c (some (a, i)))) (κ₂ := K (cell (peer c i) (some (b, slot c i))))
      (r₁ := 0) (r₂ := 0) (d₁ := 0) (d₂ := 0)
      (by rw [duties_dma]; exact Finset.mem_singleton_self _) (by rw [duties_dma]; exact Finset.mem_singleton_self _)
      () () (amt a) hN (amount_dma D c a i 0) ((amount_dma D (peer c i) b (slot c i) 0).trans hab) (owe c k)
      (by show owe c k + tallyAt (dueCell c k) () (dueAmt k) = _; rw [hc, hk]) (W := W)
      (by rw [payload_dma]
          exact (holds_intro (c : Thread nD τ) src.view hfs).trans h1)
      (by rw [payload_dma]
          exact (holds_intro (peer c i : Thread nD τ) dst.view ((View.read_write_univ _ _).trans hfs)).trans h2)) $$ [Hs Hd HO HtS HrS HtR HrR]
  · isplitr; · iapply (sky_inv D K c (some (a, i))); iexact Hsky
    isplitr; · iapply (sky_inv D K (peer c i) (some (b, slot c i))); iexact Hsky
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

/-! ## The three kinds of transfer -/

theorem rows_land (c : Dev nD) (i : Fin 3) :
    (holds (peer c i : Thread nD τ) (xin (slot c i)).view (rows D c i) : sProp 𝕄) ⊢ dmaPay D (peer c i) 1 (slot c i) := by
  show _ ⊢ holds (Val := Elt F) (peer c i : Thread nD τ) (xin (slot c i)).view (got D (peer c i) (slot c i))
  refine holds_of_eq _ _ ?_
  unfold got; rw [peer_peer, slot_peer]
theorem rtag_land (c : Dev nD) (i : Fin 3) :
    (holds (peer c i : Thread nD τ) (ain (slot c i)).view (rtag D c i) : sProp 𝕄) ⊢ dmaPay D (peer c i) 3 (slot c i) := by
  show _ ⊢ holds (Val := Elt F) (peer c i : Thread nD τ) (ain (slot c i)).view (gotTag D (peer c i) (slot c i))
  refine holds_of_eq _ _ ?_
  unfold gotTag; rw [peer_peer, slot_peer]
theorem answer_land (c : Dev nD) (i : Fin 3) :
    (holds (peer c i : Thread nD τ) (back (slot c i)).view (answer D c i) : sProp 𝕄) ⊢ dmaPay D (peer c i) 5 (slot c i) := by
  show _ ⊢ holds (Val := Elt F) (peer c i : Thread nD τ) (back (slot c i)).view (reply D (peer c i) (slot c i))
  refine holds_of_eq _ _ ?_
  unfold reply; rw [peer_peer, slot_peer]

theorem credit_xin (i : Fin 3) : (xin i).view.dmaCredit = NX := rfl
theorem credit_ain (i : Fin 3) : (ain i).view.dmaCredit = NA := rfl
theorem credit_cx (i : Fin 3) : (cx i).view.dmaCredit = NX := rfl
theorem credit_ca (i : Fin 3) : (ca i).view.dmaCredit = NA := rfl
theorem credit_ans (i : Fin 3) : (ans i).view.dmaCredit = NX := rfl
theorem credit_back (i : Fin 3) : (back i).view.dmaCredit = NX := rfl

end Cert.KernelIdeal.Moe

end
-- ==== Proof.Pieces.lean ====
/- Names for what one signal and one transfer consume, the addresses of the transfers one by one, and the values
   of the loaded and stored parts in the shapes the program uses. -/
module

public import proofs.«01_k».proof.Proof.Talk

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the signal to peer `i` consumes. -/
def sigRes (c : Dev nD) (i : Fin 3) : sProp 𝕄 :=
  iprop(dutyTok ER (bar (peer c i)) 0 (slot c i) ∗ somes (c : Thread nD τ) (xin i).view ∗ somes (c : Thread nD τ) (ain i).view
    ∗ somes (c : Thread nD τ) (back i).view ∗ reached ER (dcell c 1 i) 0 ∗ reached ER (dcell c 3 i) 0 ∗ reached ER (dcell c 5 i) 0)

/-- What a transfer to peer `i` consumes besides its source and its landing place: the duty at the device's own semaphore `a`
    and the one at the peer's semaphore `b`. -/
def sendRes (c : Dev nD) (a b : Fin 6) (i : Fin 3) : sProp 𝕄 :=
  iprop(dutyTok ER (dcell c a i) 0 0 ∗ reached ER (dcell c a i) 0 ∗ dutyTok ER (dcell (peer c i) b (slot c i)) 0 0
    ∗ reached ER (dcell (peer c i) b (slot c i)) 0)

theorem zero2 : (![0, 0] : Fin 2 → ℕ) = fun _ => 0 := by decide
theorem zero3 : (![0, 0, 0] : Fin 3 → ℕ) = fun _ => 0 := by decide

theorem dev1_at (c : Dev nD) : (⟨k0_dev1 c, k0_dev1_lt c⟩ : Dev nD) = peer c 0 := dev_eq k0_dev1 k0_dev1_lt 0 k0_dev1_eq c
theorem dev2_at (c : Dev nD) : (⟨k0_dev2 c, k0_dev2_lt c⟩ : Dev nD) = peer c 1 := dev_eq k0_dev2 k0_dev2_lt 1 k0_dev2_eq c
theorem dev3_at (c : Dev nD) : (⟨k0_dev3 c, k0_dev3_lt c⟩ : Dev nD) = peer c 2 := dev_eq k0_dev3 k0_dev3_lt 2 k0_dev3_eq c
theorem dev4_at (c : Dev nD) : (⟨k0_dev4 c, k0_dev4_lt c⟩ : Dev nD) = peer c 0 := dev_eq k0_dev4 k0_dev4_lt 0 k0_dev4_eq c
theorem dev5_at (c : Dev nD) : (⟨k0_dev5 c, k0_dev5_lt c⟩ : Dev nD) = peer c 0 := dev_eq k0_dev5 k0_dev5_lt 0 k0_dev5_eq c
theorem dev6_at (c : Dev nD) : (⟨k0_dev6 c, k0_dev6_lt c⟩ : Dev nD) = peer c 1 := dev_eq k0_dev6 k0_dev6_lt 1 k0_dev6_eq c
theorem dev7_at (c : Dev nD) : (⟨k0_dev7 c, k0_dev7_lt c⟩ : Dev nD) = peer c 1 := dev_eq k0_dev7 k0_dev7_lt 1 k0_dev7_eq c
theorem dev8_at (c : Dev nD) : (⟨k0_dev8 c, k0_dev8_lt c⟩ : Dev nD) = peer c 2 := dev_eq k0_dev8 k0_dev8_lt 2 k0_dev8_eq c
theorem dev9_at (c : Dev nD) : (⟨k0_dev9 c, k0_dev9_lt c⟩ : Dev nD) = peer c 2 := dev_eq k0_dev9 k0_dev9_lt 2 k0_dev9_eq c
theorem dev10_at (c : Dev nD) : (⟨k0_dev10 c, k0_dev10_lt c⟩ : Dev nD) = peer c 0 := dev_eq k0_dev10 k0_dev10_lt 0 k0_dev10_eq c
theorem dev11_at (c : Dev nD) : (⟨k0_dev11 c, k0_dev11_lt c⟩ : Dev nD) = peer c 1 := dev_eq k0_dev11 k0_dev11_lt 1 k0_dev11_eq c
theorem dev12_at (c : Dev nD) : (⟨k0_dev12 c, k0_dev12_lt c⟩ : Dev nD) = peer c 2 := dev_eq k0_dev12 k0_dev12_lt 2 k0_dev12_eq c
theorem xin_at0 (c : Dev nD) :
    xinM.slice (Rect.unit (s := S480x512) (k0_off2 c 0#32 0#32) S160x512.size (k0_off2_inb c 0)) (fun _ => rfl) = xin (slot c 0) := xin_at c 0
theorem ain_at0 (c : Dev nD) :
    ainM.slice (Rect.unit (s := S480x1) (k0_off3 c 0#32 0#32) S160x1.size (k0_off3_inb c 0)) (fun _ => rfl) = ain (slot c 0) := ain_at c 0
theorem back_at0 (c : Dev nD) :
    (backM.slice (Rect.unit (s := S3x160x512) (k0_off4 c 0#32 0#32) S1x160x512.size (k0_off4_inb c 0)) (fun _ => rfl)).squeeze
        S160x512 squeezes_S1x160x512_S160x512 = back (slot c 0) := back_at c 0
theorem sem_at0 (A : DmaSems sig S3) (c : Dev nD) :
    ((A.slice (Rect.unit (s := S3) (k0_off1 c 0#32 0#32) S1.size (k0_off1_inb c 0))).squeeze S_ squeezes_S1_S_).sem = semOf A (slot c 0) :=
  sem_at A c 0
theorem xin_at1 (c : Dev nD) :
    xinM.slice (Rect.unit (s := S480x512) (k0_off2 c 1#32 1#32) S160x512.size (k0_off2_inb c 1)) (fun _ => rfl) = xin (slot c 1) := xin_at c 1
theorem ain_at1 (c : Dev nD) :
    ainM.slice (Rect.unit (s := S480x1) (k0_off3 c 1#32 1#32) S160x1.size (k0_off3_inb c 1)) (fun _ => rfl) = ain (slot c 1) := ain_at c 1
theorem back_at1 (c : Dev nD) :
    (backM.slice (Rect.unit (s := S3x160x512) (k0_off4 c 1#32 1#32) S1x160x512.size (k0_off4_inb c 1)) (fun _ => rfl)).squeeze
        S160x512 squeezes_S1x160x512_S160x512 = back (slot c 1) := back_at c 1
theorem sem_at1 (A : DmaSems sig S3) (c : Dev nD) :
    ((A.slice (Rect.unit (s := S3) (k0_off1 c 1#32 1#32) S1.size (k0_off1_inb c 1))).squeeze S_ squeezes_S1_S_).sem = semOf A (slot c 1) :=
  sem_at A c 1
theorem xin_at2 (c : Dev nD) :
    xinM.slice (Rect.unit (s := S480x512) (k0_off2 c 2#32 2#32) S160x512.size (k0_off2_inb c 2)) (fun _ => rfl) = xin (slot c 2) := xin_at c 2
theorem ain_at2 (c : Dev nD) :
    ainM.slice (Rect.unit (s := S480x1) (k0_off3 c 2#32 2#32) S160x1.size (k0_off3_inb c 2)) (fun _ => rfl) = ain (slot c 2) := ain_at c 2
theorem back_at2 (c : Dev nD) :
    (backM.slice (Rect.unit (s := S3x160x512) (k0_off4 c 2#32 2#32) S1x160x512.size (k0_off4_inb c 2)) (fun _ => rfl)).squeeze
        S160x512 squeezes_S1x160x512_S160x512 = back (slot c 2) := back_at c 2
theorem sem_at2 (A : DmaSems sig S3) (c : Dev nD) :
    ((A.slice (Rect.unit (s := S3) (k0_off1 c 2#32 2#32) S1.size (k0_off1_inb c 2))).squeeze S_ squeezes_S1_S_).sem = semOf A (slot c 2) :=
  sem_at A c 2

theorem somes_holds (c : Thread nD τ) {sp : Space} {s : Shape} {e : EltTy} (v : View sig c.2.kind sp s e) :
    (somes c v : sProp 𝕄) ⊢ iprop(∃ w : s.Idx → Elt F e, holds c v w) := by
  unfold somes
  iintro ⟨%f, H⟩
  iexists (v.read (Elt F) f)
  iapply (holds_intro c v rfl) $$ H

section Values

variable (D : Data F) (c : Dev nD) (i : Fin 3)

/-- The stored rows and tags as they travel, and the answers as they are read. -/
theorem rows_flat : (holds (c : Thread nD τ) (cxM.view.slice (cxR i)) (rows3 D c i) : sProp 𝕄) ⊢ holds (c : Thread nD τ) (cx i).view (rows D c i) :=
  holds_reshape (Val := Elt F) (c : Thread nD τ) (cxM.view.slice (cxR i)) S160x512 squeezes_S1x160x512_S160x512.numel_eq (rows3 D c i)
theorem rtag_flat : (holds (c : Thread nD τ) (caM.view.slice (caR i)) (rtag3 D c i) : sProp 𝕄) ⊢ holds (c : Thread nD τ) (ca i).view (rtag D c i) :=
  holds_reshape (Val := Elt F) (c : Thread nD τ) (caM.view.slice (caR i)) S160x1 squeezes_S1x160x1_S160x1.numel_eq (rtag3 D c i)
theorem got_in : (dmaPay D c 1 i : sProp 𝕄) ⊢ holds (Val := Elt F) (c : Thread nD τ) (xin i).view (got D c i) := BIBase.Entails.rfl
theorem tag_in : (dmaPay D c 3 i : sProp 𝕄) ⊢ holds (Val := Elt F) (c : Thread nD τ) (ain i).view (gotTag D c i) := BIBase.Entails.rfl
theorem reply_deep : (dmaPay D c 5 i : sProp 𝕄) ⊢ holds (c : Thread nD τ) (backM.view.slice (cxR i)) (reply3 D c i) :=
  holds_unreshape (Val := Elt F) (c : Thread nD τ) (backM.view.slice (cxR i)) S160x512 squeezes_S1x160x512_S160x512.numel_eq (reply D c i)

theorem rows_flat0 : (holds (c : Thread nD τ) (cxM.view.slice (cxR 0)) (k0_pay7 (k0_pay6 (wp0 c) (D.x c) (D.a2 c))) : sProp 𝕄) ⊢ holds (c : Thread nD τ) (cx 0).view (rows D c 0) :=
  rows_flat D c 0
theorem rows_flat2 : (holds (c : Thread nD τ) (cxM.view.slice (cxR 2)) (k0_pay14 (k0_pay13 (wp2 c) (toks D c) (tagRow D c) rowNo (k0_pay4 (F := F)))) : sProp 𝕄) ⊢ holds (c : Thread nD τ) (cx 2).view (rows D c 2) :=
  rows_flat D c 2
theorem rtag_flat0 : (holds (c : Thread nD τ) (caM.view.slice (caR 0)) (rtag3 D c 0) : sProp 𝕄) ⊢ holds (c : Thread nD τ) (ca 0).view (rtag D c 0) :=
  rtag_flat D c 0
theorem rtag_flat1 : (holds (c : Thread nD τ) (caM.view.slice (caR 1)) (rtag3 D c 1) : sProp 𝕄) ⊢ holds (c : Thread nD τ) (ca 1).view (rtag D c 1) :=
  rtag_flat D c 1
theorem rtag_flat2 : (holds (c : Thread nD τ) (caM.view.slice (caR 2)) (rtag3 D c 2) : sProp 𝕄) ⊢ holds (c : Thread nD τ) (ca 2).view (rtag D c 2) :=
  rtag_flat D c 2
theorem rows_flat1 : (holds (c : Thread nD τ) (cxM.view.slice (cxR 1)) (rows3 D c 1) : sProp 𝕄) ⊢ holds (c : Thread nD τ) (cx 1).view (rows D c 1) :=
  rows_flat D c 1

/-- The answer to peer 2 before it is stored. -/
def answer2 : FVec F S160x512 .bf16 :=
  k0_pay32 (wz c) (got D c 2) (gotTag D c 2) (k0_pay29 (F := F)) (k0_pay30 (F := F)) (k0_pay31 (wz c) (gotTag D c 2))
    (wA0 D c) (wB0 D c) (wA1 D c) (wB1 D c)

end Values

section Weights

variable (D : Data F) (c : Dev nD) {α : Type} {Q : α → sProp (MT nD τ sig Unit (Elt F) ℕ UU ℕ)}

theorem wA_def : k0_pay16 (D.w1 c) = wA D c := rfl
theorem wB_def : k0_pay17 (D.w2 c) = wB D c := rfl

/-- A load through a rectangle, the value under the name it has. -/
theorem load_part {s : Shape} {e : EltTy} {m : Memref sig .tc .vmem s e} (r : Rect s) (w : s.Idx → Elt F e) (w' : r.shape.Idx → Elt F e)
    (h : (fun x => w (r.emb x)) = w') {hl : m.view.LoadsAt r} {k : (r.shape.Idx → Elt F e) → Prog (TpuEff nD τ sig (Elt F) Λ₀ .tc) α} :
    (holds (c : Thread nD τ) m.view w : sProp 𝕄)
      ⊢ iprop(((holds (c : Thread nD τ) m.view w) -∗ wp frame (wpE (defs₀ (F := F)) 𝒱₀ (c : Thread nD τ) none) Set.univ (k w') Q)
        -∗ wp frame (wpE (defs₀ (F := F)) 𝒱₀ (c : Thread nD τ) none) Set.univ (.op (.load m r hl) k) Q) := by
  subst h
  exact load_holds (c : Thread nD τ) 𝒱₀ none Set.univ w

end Weights

section Whole

variable (c : Thread nD τ) {s : Shape} {e : EltTy} {α : Type} {Q : α → sProp (MT nD τ sig Unit (Elt F) ℕ UU ℕ)}

theorem slice_zero_read {m : Memref sig c.2.kind .vmem s e} {off : Fin s.rank → Nat} (h : off = fun _ => 0)
    {inb : ∀ a, off a + s.size a ≤ s.size a} (f : Buf (Elt F) (m.view.loc c)) :
    (m.view.slice (Rect.unit off s.size inb)).read (Elt F) f = m.view.read (Elt F) f :=
  funext fun x => congrArg (m.view.read (Elt F) f) (by subst h; exact Rect.emb_unit_full inb x)

theorem slice_zero_set {m : Memref sig c.2.kind .vmem s e} {off : Fin s.rank → Nat} (h : off = fun _ => 0)
    {inb : ∀ a, off a + s.size a ≤ s.size a} : (m.view.slice (Rect.unit off s.size inb)).set = m.view.set := by
  refine Finset.Subset.antisymm (View.set_slice_subset _ _) ?_
  subst h
  intro i hi
  simp only [View.set, Finset.mem_map, Finset.mem_univ, true_and] at hi ⊢
  obtain ⟨x, hx⟩ := hi
  exact ⟨x, by rw [← hx]; exact congrArg m.view.emb (Rect.emb_unit_full inb x)⟩

/-- A load, and a store, of everything through a view, the loaded value not used. -/
theorem load_drop_whole {m : Memref sig c.2.kind .vmem s e} {off : Fin s.rank → Nat} (h : off = fun _ => 0)
    {inb : ∀ a, off a + s.size a ≤ s.size a} {hl : m.view.LoadsAt (Rect.unit off s.size inb)}
    {k : ((Rect.unit off s.size inb).shape.Idx → Elt F e) → Prog (TpuEff nD τ sig (Elt F) Λ₀ c.2) α} {k' : Prog (TpuEff nD τ sig (Elt F) Λ₀ c.2) α}
    (hk : k = fun _ => k') :
    (somes c m.view : sProp 𝕄)
      ⊢ iprop(((somes c m.view) -∗ wp frame (wpE (defs₀ (F := F)) 𝒱₀ c none) Set.univ k' Q)
        -∗ wp frame (wpE (defs₀ (F := F)) 𝒱₀ c none) Set.univ (.op (.load m (Rect.unit off s.size inb) hl) k) Q) := by
  have key := load_somes (Q := Q) c (defs := defs₀ (F := F)) 𝒱₀ none Set.univ (m := m) (r := Rect.unit off s.size inb) (hl := hl) hk
  unfold somes at key ⊢
  rw [slice_zero_set c h] at key
  exact key

theorem store_whole {m : Memref sig c.2.kind .vmem s e} {off : Fin s.rank → Nat} (h : off = fun _ => 0)
    {inb : ∀ a, off a + s.size a ≤ s.size a} (w : s.Idx → Elt F e)
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ c.2) α} :
    (somes c m.view : sProp 𝕄)
      ⊢ iprop(((holds c m.view w) -∗ wp frame (wpE (defs₀ (F := F)) 𝒱₀ c none) Set.univ (k ⟨⟩) Q)
        -∗ wp frame (wpE (defs₀ (F := F)) 𝒱₀ c none) Set.univ (.op (.store m (Rect.unit off s.size inb) w Finset.univ hx hm) k) Q) := by
  have key := store_slot (Q := Q) c (defs := defs₀ (F := F)) 𝒱₀ none Set.univ (m := m) (r := Rect.unit off s.size inb) (w := w) (hx := hx) (hm := hm) (k := k)
  have e1 : (somes c (m.view.slice (Rect.unit off s.size inb)) : sProp 𝕄) = somes c m.view := by
    unfold somes; rw [slice_zero_set c h]
  have e2 : (holds c (m.view.slice (Rect.unit off s.size inb)) w : sProp 𝕄) = holds c m.view w := by
    unfold holds
    rw [slice_zero_set c h]
    refine congrArg _ (funext fun f => ?_)
    rw [slice_zero_read c h f]
  rw [e1, e2] at key
  exact key

end Whole

end Cert.KernelIdeal.Moe

end
-- ==== Proof.BodyA.lean ====
/- The kernel's first half, in the pieces the program is printed in: from the signals to the experts on the device's own tokens. -/
module

public import proofs.«01_k».proof.Proof.Pieces

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)
variable (arg0 : Memref sig .tc .vmem S512x512 .bf16) (harg0 : arg0.IsWhole) (arg1 : Memref sig .tc .vmem S512x1 .i32) (harg1 : arg1.IsWhole)
variable (arg2 : Memref sig .tc .vmem S1x512 .i32) (harg2 : arg2.IsWhole) (arg3 : Memref sig .tc .vmem S2x512x1024 .bf16) (harg3 : arg3.IsWhole)
variable (arg4 : Memref sig .tc .vmem S2x1024x512 .bf16) (harg4 : arg4.IsWhole) (arg5 : Memref sig .tc .vmem S512x512 .f32) (harg5 : arg5.IsWhole)

/-- The first two signals. -/
theorem part1_run {Kt : _ → sProp (MT nD τ sig Unit (Elt F) ℕ UU ℕ)} :
    iprop(sky D K
        ∗ owing c 12
        ∗ sigRes (F := F) c 0
        ∗ sigRes (F := F) c 1)
      ⊢ iprop(((owing (F := F) c 10) -∗ Kt ⟨c, wx c, wy c, wz c, wp0 c, wp1 c, wp2 c, SemArray.scalar (sig.barrier 0 rfl), Scalar.muli (wx c) 8#32, 0#32⟩)
        -∗ wp frame (wpE (defs₀ (F := F)) 𝒱₀ (c : Thread nD τ) none) Set.univ (k0_part1 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 ) Kt) := by
  rw [k0_part1_eq_skeleton]; unfold k0_part1_skel
  simp only [semSignalWord, semWaitWord, Prog.lift, Prog.bind_op, Prog.bind_ret, Prog.pure_eq_ret, wp_deviceId]
  iintro ⟨#Hsky, HO, Hg0, Hg1⟩ Hk
  unfold sigRes; icases Hg0 with ⟨Ht, Hx, Ha, Hb, H1, H3, H5⟩
  iapply (signal_step D K c _ 0 (dev1_at c) 11 rfl rfl) $$ [HO Ht Hx Ha Hb H1 H3 H5]
  · isplitr; · iexact Hsky
    isplitl [HO]; · iexact HO
    isplitl [Ht]; · iexact Ht
    isplitl [Hx]; · iexact Hx
    isplitl [Ha]; · iexact Ha
    isplitl [Hb]; · iexact Hb
    isplitl [H1]; · iexact H1
    isplitl [H3]; · iexact H3
    iexact H5
  iintro HO
  icases Hg1 with ⟨Ht, Hx, Ha, Hb, H1, H3, H5⟩
  iapply (signal_step D K c _ 1 (dev2_at c) 10 rfl rfl) $$ [HO Ht Hx Ha Hb H1 H3 H5]
  · isplitr; · iexact Hsky
    isplitl [HO]; · iexact HO
    isplitl [Ht]; · iexact Ht
    isplitl [Hx]; · iexact Hx
    isplitl [Ha]; · iexact Ha
    isplitl [Hb]; · iexact Hb
    isplitl [H1]; · iexact H1
    isplitl [H3]; · iexact H3
    iexact H5
  iintro HO
  rw [wp_ret]; imodintro
  ihave Hk := Hk $$ HO
  iexact Hk

/-- The third signal, the barrier wait, the inputs read. -/
theorem part2_run (u5 u31 u19 : BitVec 32) {Kt : _ → sProp (MT nD τ sig Unit (Elt F) ℕ UU ℕ)} :
    iprop(sky D K
        ∗ owing c 10
        ∗ sigRes (F := F) c 2
        ∗ cred (tallyAt (bar c) () 3)
        ∗ atPos ER (bar c) 0 ∅ 0
        ∗ holds (c : Thread nD τ) arg0.view (D.x c)
        ∗ holds (c : Thread nD τ) arg1.view (D.a1 c)
        ∗ holds (c : Thread nD τ) arg2.view (D.a2 c))
      ⊢ iprop(((owing c 9 ∗ atPos ER (bar c) 1 ∅ 0 ∗ barPay c 0 ∗ barPay c 1 ∗ barPay c 2 ∗ holds (c : Thread nD τ) arg0.view (D.x c) ∗ holds (c : Thread nD τ) arg1.view (D.a1 c) ∗ holds (c : Thread nD τ) arg2.view (D.a2 c)) -∗ Kt ⟨toks D c, tags D c, tagRow D c, rowNo, k0_pay4 (F := F), pick0 D c, k0_pay6 (wp0 c) (D.x c) (D.a2 c)⟩)
        -∗ wp frame (wpE (defs₀ (F := F)) 𝒱₀ (c : Thread nD τ) none) Set.univ (k0_part2 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u5 (wp0 c) (wp2 c) (SemArray.scalar (sig.barrier 0 rfl)) u31 u19) Kt) := by
  rw [k0_part2_eq_skeleton]; unfold k0_part2_skel
  simp only [semSignalWord, semWaitWord, Prog.lift, Prog.bind_op, Prog.bind_ret, Prog.pure_eq_ret, wp_deviceId]
  iintro ⟨#Hsky, HO, Hg2, HcB, HaB, Hx0, Hx1, Hx2⟩ Hk
  unfold sigRes; icases Hg2 with ⟨Ht, Hx, Ha, Hb, H1, H3, H5⟩
  iapply (signal_step D K c _ 2 (dev3_at c) 9 rfl rfl) $$ [HO Ht Hx Ha Hb H1 H3 H5]
  · isplitr; · iexact Hsky
    isplitl [HO]; · iexact HO
    isplitl [Ht]; · iexact Ht
    isplitl [Hx]; · iexact Hx
    isplitl [Ha]; · iexact Ha
    isplitl [Hb]; · iexact Hb
    isplitl [H1]; · iexact H1
    isplitl [H3]; · iexact H3
    iexact H5
  iintro HO
  iapply (barrier_step D K c) $$ [HcB HO HaB]
  · isplitr; · iexact Hsky
    isplitl [HcB]; · iexact HcB
    isplitl [HO]; · iexact HO
    iexact HaB
  iintro ⟨HO, HaB, Hb0, Hb1, Hb2⟩
  iapply (load_whole (c : Thread nD τ) (m := arg0) zero2 _) $$ Hx0
  iintro Hx0
  iapply (load_whole (c : Thread nD τ) (m := arg1) zero2 _) $$ Hx1
  iintro Hx1
  iapply (load_whole (c : Thread nD τ) (m := arg2) zero2 _) $$ Hx2
  iintro Hx2
  rw [wp_ret]; imodintro
  ihave Hk := Hk $$ [HO HaB Hb0 Hb1 Hb2 Hx0 Hx1 Hx2]
  · isplitl [HO]; · iexact HO
    isplitl [HaB]; · iexact HaB
    isplitl [Hb0]; · iexact Hb0
    isplitl [Hb1]; · iexact Hb1
    isplitl [Hb2]; · iexact Hb2
    isplitl [Hx0]; · iexact Hx0
    isplitl [Hx1]; · iexact Hx1
    iexact Hx2
  unfold toks tags tagRow pick0
  iexact Hk

/-- Rows and tags for peer 0 stored; the rows sent. -/
theorem part3_run (u2 u5 u8 u11 : BitVec 32) {Kt : _ → sProp (MT nD τ sig Unit (Elt F) ℕ UU ℕ)} :
    iprop(sky D K
        ∗ owing c 9
        ∗ somes (c : Thread nD τ) (cxM.view.slice (cxR 0))
        ∗ somes (c : Thread nD τ) (caM.view.slice (caR 0))
        ∗ somes (peer c 0 : Thread nD τ) (xin (slot c 0)).view
        ∗ sendRes (F := F) c 0 1 0)
      ⊢ iprop(((owing c 8 ∗ cred (tallyAt (dcell c 0 0) () (amt 0)) ∗ holds (c : Thread nD τ) (caM.view.slice (caR 0)) (rtag3 D c 0)) -∗ Kt ⟨⟩)
        -∗ wp frame (wpE (defs₀ (F := F)) 𝒱₀ (c : Thread nD τ) none) Set.univ (k0_part3 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u8 u11 (tags D c) (pick0 D c) (k0_pay6 (wp0 c) (D.x c) (D.a2 c))) Kt) := by
  rw [k0_part3_eq_skeleton]; unfold k0_part3_skel
  simp only [semSignalWord, semWaitWord, Prog.lift, Prog.bind_op, Prog.bind_ret, Prog.pure_eq_ret, wp_deviceId]
  iintro ⟨#Hsky, HO, Hcx0, Hca0, Hlx0, Hs00⟩ Hk
  iapply (load_somes (c : Thread nD τ) 𝒱₀ none Set.univ (m := cxM) (r := cxR 0) rfl) $$ Hcx0
  iintro Hcx0
  iapply (store_slot (c : Thread nD τ) 𝒱₀ none Set.univ (m := cxM) (r := cxR 0)) $$ Hcx0
  iintro Hcx0
  iapply (load_somes (c : Thread nD τ) 𝒱₀ none Set.univ (m := caM) (r := caR 0) rfl) $$ Hca0
  iintro Hca0
  iapply (store_slot (c : Thread nD τ) 𝒱₀ none Set.univ (m := caM) (r := caR 0)) $$ Hca0
  iintro Hca0
  ihave Hcx0 := (rows_flat0 D c) $$ Hcx0
  unfold sendRes; icases Hs00 with ⟨HtS, HrS, HtR, HrR⟩
  iapply (send_step D K c _ 0 (dev4_at c) 0 1 8 rfl rfl rfl (cx 0) (xin (slot c 0)) rfl (xin_at0 c) (sem_sendX 0) ((sem_at0 _ c).trans (sem_recvX (slot c 0))) rfl (rows D c 0) (BIBase.Entails.rfl) (rows_land D c 0)) $$ [Hcx0 Hlx0 HO HtS HrS HtR HrR]
  · isplitr; · iexact Hsky
    isplitl [Hcx0]; · iexact Hcx0
    isplitl [Hlx0]; · iexact Hlx0
    isplitl [HO]; · iexact HO
    isplitl [HtS]; · iexact HtS
    isplitl [HrS]; · iexact HrS
    isplitl [HtR]; · iexact HtR
    iexact HrR
  iintro ⟨Hc00, HO⟩
  rw [wp_ret]; imodintro
  ihave Hk := Hk $$ [HO Hc00 Hca0]
  · isplitl [HO]; · iexact HO
    isplitl [Hc00]; · iexact Hc00
    iexact Hca0
  iexact Hk

/-- The tags sent to peer 0; rows and tags for peer 1 stored. -/
theorem part4_run (u2 u8 : BitVec 32) {Kt : _ → sProp (MT nD τ sig Unit (Elt F) ℕ UU ℕ)} :
    iprop(sky D K
        ∗ owing c 8
        ∗ holds (c : Thread nD τ) (caM.view.slice (caR 0)) (rtag3 D c 0)
        ∗ somes (peer c 0 : Thread nD τ) (ain (slot c 0)).view
        ∗ sendRes (F := F) c 2 3 0
        ∗ somes (c : Thread nD τ) (cxM.view.slice (cxR 1))
        ∗ somes (c : Thread nD τ) (caM.view.slice (caR 1)))
      ⊢ iprop(((owing c 7 ∗ cred (tallyAt (dcell c 2 0) () (amt 2)) ∗ holds (c : Thread nD τ) (cxM.view.slice (cxR 1)) (rows3 D c 1) ∗ holds (c : Thread nD τ) (caM.view.slice (caR 1)) (rtag3 D c 1)) -∗ Kt ⟨pick1 D c, Scalar.addi 0#32 (Scalar.muli u2 8#32), 4#32⟩)
        -∗ wp frame (wpE (defs₀ (F := F)) 𝒱₀ (c : Thread nD τ) none) Set.univ (k0_part4 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u8 (wp1 c) (toks D c) (tags D c) (tagRow D c) rowNo (k0_pay4 (F := F))) Kt) := by
  rw [k0_part4_eq_skeleton]; unfold k0_part4_skel
  simp only [semSignalWord, semWaitWord, Prog.lift, Prog.bind_op, Prog.bind_ret, Prog.pure_eq_ret, wp_deviceId]
  iintro ⟨#Hsky, HO, Hca0, Hla0, Hs20, Hcx1, Hca1⟩ Hk
  ihave Hca0 := (rtag_flat0 D c) $$ Hca0
  unfold sendRes; icases Hs20 with ⟨HtS, HrS, HtR, HrR⟩
  iapply (send_step D K c _ 0 (dev5_at c) 2 3 7 rfl rfl rfl (ca 0) (ain (slot c 0)) rfl (ain_at0 c) (sem_sendA 0) ((sem_at0 _ c).trans (sem_recvA (slot c 0))) rfl (rtag D c 0) (BIBase.Entails.rfl) (rtag_land D c 0)) $$ [Hca0 Hla0 HO HtS HrS HtR HrR]
  · isplitr; · iexact Hsky
    isplitl [Hca0]; · iexact Hca0
    isplitl [Hla0]; · iexact Hla0
    isplitl [HO]; · iexact HO
    isplitl [HtS]; · iexact HtS
    isplitl [HrS]; · iexact HrS
    isplitl [HtR]; · iexact HtR
    iexact HrR
  iintro ⟨Hc20, HO⟩
  iapply (load_somes (c : Thread nD τ) 𝒱₀ none Set.univ (m := cxM) (r := cxR 1) rfl) $$ Hcx1
  iintro Hcx1
  iapply (store_slot (c : Thread nD τ) 𝒱₀ none Set.univ (m := cxM) (r := cxR 1)) $$ Hcx1
  iintro Hcx1
  iapply (load_somes (c : Thread nD τ) 𝒱₀ none Set.univ (m := caM) (r := caR 1) rfl) $$ Hca1
  iintro Hca1
  iapply (store_slot (c : Thread nD τ) 𝒱₀ none Set.univ (m := caM) (r := caR 1)) $$ Hca1
  iintro Hca1
  rw [wp_ret]; imodintro
  ihave Hk := Hk $$ [HO Hc20 Hcx1 Hca1]
  · isplitl [HO]; · iexact HO
    isplitl [Hc20]; · iexact Hc20
    isplitl [Hcx1]; · iexact Hcx1
    iexact Hca1
  unfold pick1
  iexact Hk

/-- Rows and tags sent to peer 1. -/
theorem part5_run (u2 u5 u14 u144 u72 : BitVec 32) {Kt : _ → sProp (MT nD τ sig Unit (Elt F) ℕ UU ℕ)} :
    iprop(sky D K
        ∗ owing c 7
        ∗ holds (c : Thread nD τ) (cxM.view.slice (cxR 1)) (rows3 D c 1)
        ∗ holds (c : Thread nD τ) (caM.view.slice (caR 1)) (rtag3 D c 1)
        ∗ somes (peer c 1 : Thread nD τ) (xin (slot c 1)).view
        ∗ somes (peer c 1 : Thread nD τ) (ain (slot c 1)).view
        ∗ sendRes (F := F) c 0 1 1
        ∗ sendRes (F := F) c 2 3 1)
      ⊢ iprop(((owing c 5 ∗ cred (tallyAt (dcell c 0 1) () (amt 0)) ∗ cred (tallyAt (dcell c 2 1) () (amt 2))) -∗ Kt ⟨pick2 D c, k0_pay13 (wp2 c) (toks D c) (tagRow D c) rowNo (k0_pay4 (F := F))⟩)
        -∗ wp frame (wpE (defs₀ (F := F)) 𝒱₀ (c : Thread nD τ) none) Set.univ (k0_part5 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u14 (wp2 c) (toks D c) (tagRow D c) rowNo (k0_pay4 (F := F)) u144 u72) Kt) := by
  rw [k0_part5_eq_skeleton]; unfold k0_part5_skel
  simp only [semSignalWord, semWaitWord, Prog.lift, Prog.bind_op, Prog.bind_ret, Prog.pure_eq_ret, wp_deviceId]
  iintro ⟨#Hsky, HO, Hcx1, Hca1, Hlx1, Hla1, Hs01, Hs21⟩ Hk
  ihave Hcx1 := (rows_flat1 D c) $$ Hcx1
  unfold sendRes; icases Hs01 with ⟨HtS, HrS, HtR, HrR⟩
  iapply (send_step D K c _ 1 (dev6_at c) 0 1 6 rfl rfl rfl (cx 1) (xin (slot c 1)) rfl (xin_at1 c) (sem_sendX 1) ((sem_at1 _ c).trans (sem_recvX (slot c 1))) rfl (rows D c 1) (BIBase.Entails.rfl) (rows_land D c 1)) $$ [Hcx1 Hlx1 HO HtS HrS HtR HrR]
  · isplitr; · iexact Hsky
    isplitl [Hcx1]; · iexact Hcx1
    isplitl [Hlx1]; · iexact Hlx1
    isplitl [HO]; · iexact HO
    isplitl [HtS]; · iexact HtS
    isplitl [HrS]; · iexact HrS
    isplitl [HtR]; · iexact HtR
    iexact HrR
  iintro ⟨Hc01, HO⟩
  ihave Hca1 := (rtag_flat1 D c) $$ Hca1
  icases Hs21 with ⟨HtS, HrS, HtR, HrR⟩
  iapply (send_step D K c _ 1 (dev7_at c) 2 3 5 rfl rfl rfl (ca 1) (ain (slot c 1)) rfl (ain_at1 c) (sem_sendA 1) ((sem_at1 _ c).trans (sem_recvA (slot c 1))) rfl (rtag D c 1) (BIBase.Entails.rfl) (rtag_land D c 1)) $$ [Hca1 Hla1 HO HtS HrS HtR HrR]
  · isplitr; · iexact Hsky
    isplitl [Hca1]; · iexact Hca1
    isplitl [Hla1]; · iexact Hla1
    isplitl [HO]; · iexact HO
    isplitl [HtS]; · iexact HtS
    isplitl [HrS]; · iexact HrS
    isplitl [HtR]; · iexact HtR
    iexact HrR
  iintro ⟨Hc21, HO⟩
  rw [wp_ret]; imodintro
  ihave Hk := Hk $$ [HO Hc01 Hc21]
  · isplitl [HO]; · iexact HO
    isplitl [Hc01]; · iexact Hc01
    iexact Hc21
  unfold pick2
  iexact Hk

/-- Rows and tags for peer 2 stored; the rows sent. -/
theorem part6_run (u2 u5 u8 u17 : BitVec 32) {Kt : _ → sProp (MT nD τ sig Unit (Elt F) ℕ UU ℕ)} :
    iprop(sky D K
        ∗ owing c 5
        ∗ somes (c : Thread nD τ) (cxM.view.slice (cxR 2))
        ∗ somes (c : Thread nD τ) (caM.view.slice (caR 2))
        ∗ somes (peer c 2 : Thread nD τ) (xin (slot c 2)).view
        ∗ sendRes (F := F) c 0 1 2)
      ⊢ iprop(((owing c 4 ∗ cred (tallyAt (dcell c 0 2) () (amt 0)) ∗ holds (c : Thread nD τ) (caM.view.slice (caR 2)) (rtag3 D c 2)) -∗ Kt ⟨⟩)
        -∗ wp frame (wpE (defs₀ (F := F)) 𝒱₀ (c : Thread nD τ) none) Set.univ (k0_part6 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u8 u17 (tags D c) (pick2 D c) (k0_pay13 (wp2 c) (toks D c) (tagRow D c) rowNo (k0_pay4 (F := F)))) Kt) := by
  rw [k0_part6_eq_skeleton]; unfold k0_part6_skel
  simp only [semSignalWord, semWaitWord, Prog.lift, Prog.bind_op, Prog.bind_ret, Prog.pure_eq_ret, wp_deviceId]
  iintro ⟨#Hsky, HO, Hcx2, Hca2, Hlx2, Hs02⟩ Hk
  iapply (load_somes (c : Thread nD τ) 𝒱₀ none Set.univ (m := cxM) (r := cxR 2) rfl) $$ Hcx2
  iintro Hcx2
  iapply (store_slot (c : Thread nD τ) 𝒱₀ none Set.univ (m := cxM) (r := cxR 2)) $$ Hcx2
  iintro Hcx2
  iapply (load_somes (c : Thread nD τ) 𝒱₀ none Set.univ (m := caM) (r := caR 2) rfl) $$ Hca2
  iintro Hca2
  iapply (store_slot (c : Thread nD τ) 𝒱₀ none Set.univ (m := caM) (r := caR 2)) $$ Hca2
  iintro Hca2
  ihave Hcx2 := (rows_flat2 D c) $$ Hcx2
  unfold sendRes; icases Hs02 with ⟨HtS, HrS, HtR, HrR⟩
  iapply (send_step D K c _ 2 (dev8_at c) 0 1 4 rfl rfl rfl (cx 2) (xin (slot c 2)) rfl (xin_at2 c) (sem_sendX 2) ((sem_at2 _ c).trans (sem_recvX (slot c 2))) rfl (rows D c 2) (BIBase.Entails.rfl) (rows_land D c 2)) $$ [Hcx2 Hlx2 HO HtS HrS HtR HrR]
  · isplitr; · iexact Hsky
    isplitl [Hcx2]; · iexact Hcx2
    isplitl [Hlx2]; · iexact Hlx2
    isplitl [HO]; · iexact HO
    isplitl [HtS]; · iexact HtS
    isplitl [HrS]; · iexact HrS
    isplitl [HtR]; · iexact HtR
    iexact HrR
  iintro ⟨Hc02, HO⟩
  rw [wp_ret]; imodintro
  ihave Hk := Hk $$ [HO Hc02 Hca2]
  · isplitl [HO]; · iexact HO
    isplitl [Hc02]; · iexact Hc02
    iexact Hca2
  iexact Hk

/-- The tags sent to peer 2; the weights copied. -/
theorem part7_run {Kt : _ → sProp (MT nD τ sig Unit (Elt F) ℕ UU ℕ)} :
    iprop(sky D K
        ∗ owing c 4
        ∗ holds (c : Thread nD τ) (caM.view.slice (caR 2)) (rtag3 D c 2)
        ∗ somes (peer c 2 : Thread nD τ) (ain (slot c 2)).view
        ∗ sendRes (F := F) c 2 3 2
        ∗ holds (c : Thread nD τ) arg3.view (D.w1 c)
        ∗ holds (c : Thread nD τ) arg4.view (D.w2 c)
        ∗ somes (c : Thread nD τ) w1M.view
        ∗ somes (c : Thread nD τ) w2M.view)
      ⊢ iprop(((owing c 3 ∗ cred (tallyAt (dcell c 2 2) () (amt 2)) ∗ holds (c : Thread nD τ) arg3.view (D.w1 c) ∗ holds (c : Thread nD τ) arg4.view (D.w2 c) ∗ holds (c : Thread nD τ) w1M.view (wA D c) ∗ holds (c : Thread nD τ) w2M.view (wB D c)) -∗ Kt ⟨k0_pay18 (F := F), k0_pay19 (wz c) (toks D c) (tags D c) (wA0 D c), k0_pay20 (F := F)⟩)
        -∗ wp frame (wpE (defs₀ (F := F)) 𝒱₀ (c : Thread nD τ) none) Set.univ (k0_part7 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c (wz c) (toks D c) (tags D c)) Kt) := by
  rw [k0_part7_eq_skeleton]; unfold k0_part7_skel
  simp only [semSignalWord, semWaitWord, Prog.lift, Prog.bind_op, Prog.bind_ret, Prog.pure_eq_ret, wp_deviceId]
  iintro ⟨#Hsky, HO, Hca2, Hla2, Hs22, Hx3, Hx4, HwA, HwB⟩ Hk
  ihave Hca2 := (rtag_flat2 D c) $$ Hca2
  unfold sendRes; icases Hs22 with ⟨HtS, HrS, HtR, HrR⟩
  iapply (send_step D K c _ 2 (dev9_at c) 2 3 3 rfl rfl rfl (ca 2) (ain (slot c 2)) rfl (ain_at2 c) (sem_sendA 2) ((sem_at2 _ c).trans (sem_recvA (slot c 2))) rfl (rtag D c 2) (BIBase.Entails.rfl) (rtag_land D c 2)) $$ [Hca2 Hla2 HO HtS HrS HtR HrR]
  · isplitr; · iexact Hsky
    isplitl [Hca2]; · iexact Hca2
    isplitl [Hla2]; · iexact Hla2
    isplitl [HO]; · iexact HO
    isplitl [HtS]; · iexact HtS
    isplitl [HrS]; · iexact HrS
    isplitl [HtR]; · iexact HtR
    iexact HrR
  iintro ⟨Hc22, HO⟩
  iapply (load_whole (c : Thread nD τ) (m := arg3) zero3 _) $$ Hx3
  iintro Hx3
  ihave HwA := (somes_whole_unit (c : Thread nD τ) cc0_scratch6 zero3 inb_S2x512x1024_S2x512x1024_0_0_0) $$ HwA
  iapply (load_somes (c : Thread nD τ) 𝒱₀ none Set.univ (m := w1M) (r := Rect.unit (s := S2x512x1024) ![0, 0, 0] S2x512x1024.size inb_S2x512x1024_S2x512x1024_0_0_0) rfl) $$ HwA
  iintro HwA
  iapply (store_slot (c : Thread nD τ) 𝒱₀ none Set.univ (m := w1M) (r := Rect.unit (s := S2x512x1024) ![0, 0, 0] S2x512x1024.size inb_S2x512x1024_S2x512x1024_0_0_0)) $$ HwA
  iintro HwA
  ihave HwA := (holds_unit_zero (c : Thread nD τ) cc0_scratch6 zero3 inb_S2x512x1024_S2x512x1024_0_0_0 _) $$ HwA
  ihave HwA := (holds_of_eq (c : Thread nD τ) w1M.view (wA_def D c)) $$ HwA
  iapply (load_whole (c : Thread nD τ) (m := arg4) zero3 _) $$ Hx4
  iintro Hx4
  ihave HwB := (somes_whole_unit (c : Thread nD τ) cc0_scratch7 zero3 inb_S2x1024x512_S2x1024x512_0_0_0) $$ HwB
  iapply (load_somes (c : Thread nD τ) 𝒱₀ none Set.univ (m := w2M) (r := Rect.unit (s := S2x1024x512) ![0, 0, 0] S2x1024x512.size inb_S2x1024x512_S2x1024x512_0_0_0) rfl) $$ HwB
  iintro HwB
  iapply (store_slot (c : Thread nD τ) 𝒱₀ none Set.univ (m := w2M) (r := Rect.unit (s := S2x1024x512) ![0, 0, 0] S2x1024x512.size inb_S2x1024x512_S2x1024x512_0_0_0)) $$ HwB
  iintro HwB
  ihave HwB := (holds_unit_zero (c : Thread nD τ) cc0_scratch7 zero3 inb_S2x1024x512_S2x1024x512_0_0_0 _) $$ HwB
  ihave HwB := (holds_of_eq (c : Thread nD τ) w2M.view (wB_def D c)) $$ HwB
  iapply (load_part c (m := w1M) (Rect.unit (s := S2x512x1024) ![0, 0, 0] S1x512x1024.size inb_S2x512x1024_S1x512x1024_0_0_0) (wA D c) (wA0 D c) rfl) $$ HwA
  iintro HwA
  rw [wp_ret]; imodintro
  ihave Hk := Hk $$ [HO Hc22 Hx3 Hx4 HwA HwB]
  · isplitl [HO]; · iexact HO
    isplitl [Hc22]; · iexact Hc22
    isplitl [Hx3]; · iexact Hx3
    isplitl [Hx4]; · iexact Hx4
    isplitl [HwA]; · iexact HwA
    iexact HwB
  iexact Hk

/-- The device's experts on its own tokens. -/
theorem part8_run (u2 u5 : BitVec 32) {Kt : _ → sProp (MT nD τ sig Unit (Elt F) ℕ UU ℕ)} :
    iprop(holds (c : Thread nD τ) w1M.view (wA D c)
        ∗ holds (c : Thread nD τ) w2M.view (wB D c))
      ⊢ iprop(((holds (c : Thread nD τ) w1M.view (wA D c) ∗ holds (c : Thread nD τ) w2M.view (wB D c)) -∗ Kt (own D c))
        -∗ wp frame (wpE (defs₀ (F := F)) 𝒱₀ (c : Thread nD τ) none) Set.univ (k0_part8 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 u2 u5 (wz c) (toks D c) (tags D c) (k0_pay18 (F := F)) (k0_pay19 (wz c) (toks D c) (tags D c) (wA0 D c)) (k0_pay20 (F := F))) Kt) := by
  rw [k0_part8_eq_skeleton]; unfold k0_part8_skel
  simp only [semSignalWord, semWaitWord, Prog.lift, Prog.bind_op, Prog.bind_ret, Prog.pure_eq_ret, wp_deviceId]
  iintro ⟨HwA, HwB⟩ Hk
  iapply (load_part c (m := w2M) (Rect.unit (s := S2x1024x512) ![0, 0, 0] S1x1024x512.size inb_S2x1024x512_S1x1024x512_0_0_0) (wB D c) (wB0 D c) rfl) $$ HwB
  iintro HwB
  iapply (load_part c (m := w1M) (Rect.unit (s := S2x512x1024) ![1, 0, 0] S1x512x1024.size inb_S2x512x1024_S1x512x1024_1_0_0) (wA D c) (wA1 D c) rfl) $$ HwA
  iintro HwA
  iapply (load_part c (m := w2M) (Rect.unit (s := S2x1024x512) ![1, 0, 0] S1x1024x512.size inb_S2x1024x512_S1x1024x512_1_0_0) (wB D c) (wB1 D c) rfl) $$ HwB
  iintro HwB
  rw [wp_ret]; imodintro
  ihave Hk := Hk $$ [HwA HwB]
  · isplitl [HwA]; · iexact HwA
    iexact HwB
  unfold own
  iexact Hk

end Cert.KernelIdeal.Moe

end
-- ==== Proof.BodyB.lean ====
/- The kernel's second half, in the pieces the program is printed in: the peers' rows answered, and the answers combined. -/
module

public import proofs.«01_k».proof.Proof.Pieces

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)
variable (arg0 : Memref sig .tc .vmem S512x512 .bf16) (harg0 : arg0.IsWhole) (arg1 : Memref sig .tc .vmem S512x1 .i32) (harg1 : arg1.IsWhole)
variable (arg2 : Memref sig .tc .vmem S1x512 .i32) (harg2 : arg2.IsWhole) (arg3 : Memref sig .tc .vmem S2x512x1024 .bf16) (harg3 : arg3.IsWhole)
variable (arg4 : Memref sig .tc .vmem S2x1024x512 .bf16) (harg4 : arg4.IsWhole) (arg5 : Memref sig .tc .vmem S512x512 .f32) (harg5 : arg5.IsWhole)

/-- Rows and tags from peer 0. -/
theorem part9_run (u2 u5 : BitVec 32) {Kt : _ → sProp (MT nD τ sig Unit (Elt F) ℕ UU ℕ)} :
    iprop(sky D K
        ∗ owing c 3
        ∗ cred (tallyAt (dcell c 1 0) () (amt 1))
        ∗ atPos ER (dcell c 1 0) 0 ∅ 0
        ∗ cred (tallyAt (dcell c 3 0) () (amt 3))
        ∗ atPos ER (dcell c 3 0) 0 ∅ 0
        ∗ holds (c : Thread nD τ) w1M.view (wA D c))
      ⊢ iprop(((owing c 3 ∗ atPos ER (dcell c 1 0) 1 ∅ 0 ∗ atPos ER (dcell c 3 0) 1 ∅ 0 ∗ holds (c : Thread nD τ) (xin 0).view (got D c 0) ∗ holds (c : Thread nD τ) (ain 0).view (gotTag D c 0) ∗ holds (c : Thread nD τ) w1M.view (wA D c)) -∗ Kt ⟨got D c 0, gotTag D c 0, k0_pay22 (F := F), k0_pay23 (wz c) (got D c 0) (gotTag D c 0) (wA0 D c)⟩)
        -∗ wp frame (wpE (defs₀ (F := F)) 𝒱₀ (c : Thread nD τ) none) Set.univ (k0_part9 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 u2 u5 (wz c)) Kt) := by
  rw [k0_part9_eq_skeleton]; unfold k0_part9_skel
  simp only [semSignalWord, semWaitWord, Prog.lift, Prog.bind_op, Prog.bind_ret, Prog.pure_eq_ret, wp_deviceId]
  iintro ⟨#Hsky, HO, Hc10, Ha10, Hc30, Ha30, HwA⟩ Hk
  iapply (wait_step D K c 1 0 3 (by decide) (sem_recvX 0) (dst := xin 0) rfl) $$ [Hc10 HO Ha10]
  · isplitr; · iexact Hsky
    isplitl [Hc10]; · iexact Hc10
    isplitl [HO]; · iexact HO
    iexact Ha10
  iintro ⟨HO, Ha10, Hxin0⟩
  ihave Hxin0 := (got_in D c 0) $$ Hxin0
  iapply (wait_step D K c 3 0 3 (by decide) (sem_recvA 0) (dst := ain 0) rfl) $$ [Hc30 HO Ha30]
  · isplitr; · iexact Hsky
    isplitl [Hc30]; · iexact Hc30
    isplitl [HO]; · iexact HO
    iexact Ha30
  iintro ⟨HO, Ha30, Hain0⟩
  ihave Hain0 := (tag_in D c 0) $$ Hain0
  iapply (load_slot (c : Thread nD τ) 𝒱₀ none Set.univ (m := xinM) (r := xinR 0) _) $$ Hxin0
  iintro Hxin0
  iapply (load_slot (c : Thread nD τ) 𝒱₀ none Set.univ (m := ainM) (r := ainR 0) _) $$ Hain0
  iintro Hain0
  iapply (load_part c (m := w1M) (Rect.unit (s := S2x512x1024) ![0, 0, 0] S1x512x1024.size inb_S2x512x1024_S1x512x1024_0_0_0) (wA D c) (wA0 D c) rfl) $$ HwA
  iintro HwA
  rw [wp_ret]; imodintro
  ihave Hk := Hk $$ [HO Ha10 Ha30 Hxin0 Hain0 HwA]
  · isplitl [HO]; · iexact HO
    isplitl [Ha10]; · iexact Ha10
    isplitl [Ha30]; · iexact Ha30
    isplitl [Hxin0]; · iexact Hxin0
    isplitl [Hain0]; · iexact Hain0
    iexact HwA
  iexact Hk

/-- The answer to peer 0 stored. -/
theorem part10_run (u2 u11 : BitVec 32) {Kt : _ → sProp (MT nD τ sig Unit (Elt F) ℕ UU ℕ)} :
    iprop(holds (c : Thread nD τ) w1M.view (wA D c)
        ∗ holds (c : Thread nD τ) w2M.view (wB D c)
        ∗ somes (c : Thread nD τ) (ans 0).view)
      ⊢ iprop(((holds (c : Thread nD τ) w1M.view (wA D c) ∗ holds (c : Thread nD τ) w2M.view (wB D c) ∗ holds (c : Thread nD τ) (ans 0).view (answer D c 0)) -∗ Kt ⟨Scalar.muli u2 8#32, 0#32⟩)
        -∗ wp frame (wpE (defs₀ (F := F)) 𝒱₀ (c : Thread nD τ) none) Set.univ (k0_part10 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 u2 (wz c) u11 (got D c 0) (gotTag D c 0) (k0_pay22 (F := F)) (k0_pay23 (wz c) (got D c 0) (gotTag D c 0) (wA0 D c))) Kt) := by
  rw [k0_part10_eq_skeleton]; unfold k0_part10_skel
  simp only [semSignalWord, semWaitWord, Prog.lift, Prog.bind_op, Prog.bind_ret, Prog.pure_eq_ret, wp_deviceId]
  iintro ⟨HwA, HwB, Hans0⟩ Hk
  iapply (load_part c (m := w2M) (Rect.unit (s := S2x1024x512) ![0, 0, 0] S1x1024x512.size inb_S2x1024x512_S1x1024x512_0_0_0) (wB D c) (wB0 D c) rfl) $$ HwB
  iintro HwB
  iapply (load_part c (m := w1M) (Rect.unit (s := S2x512x1024) ![1, 0, 0] S1x512x1024.size inb_S2x512x1024_S1x512x1024_1_0_0) (wA D c) (wA1 D c) rfl) $$ HwA
  iintro HwA
  iapply (load_part c (m := w2M) (Rect.unit (s := S2x1024x512) ![1, 0, 0] S1x1024x512.size inb_S2x1024x512_S1x1024x512_1_0_0) (wB D c) (wB1 D c) rfl) $$ HwB
  iintro HwB
  iapply (load_somes (c : Thread nD τ) 𝒱₀ none Set.univ (m := ansM) (r := xinR 0) rfl) $$ Hans0
  iintro Hans0
  iapply (store_slot (c : Thread nD τ) 𝒱₀ none Set.univ (m := ansM) (r := xinR 0)) $$ Hans0
  iintro Hans0
  rw [wp_ret]; imodintro
  ihave Hk := Hk $$ [HwA HwB Hans0]
  · isplitl [HwA]; · iexact HwA
    isplitl [HwB]; · iexact HwB
    iexact Hans0
  iexact Hk

/-- The answer sent to peer 0; rows from peer 1. -/
theorem part11_run (u2 u5 u8 u11 u353 u211 : BitVec 32) {Kt : _ → sProp (MT nD τ sig Unit (Elt F) ℕ UU ℕ)} :
    iprop(sky D K
        ∗ owing c 3
        ∗ holds (c : Thread nD τ) (ans 0).view (answer D c 0)
        ∗ somes (peer c 0 : Thread nD τ) (back (slot c 0)).view
        ∗ sendRes (F := F) c 4 5 0
        ∗ cred (tallyAt (dcell c 1 1) () (amt 1))
        ∗ atPos ER (dcell c 1 1) 0 ∅ 0)
      ⊢ iprop(((owing c 2 ∗ cred (tallyAt (dcell c 4 0) () (amt 4)) ∗ atPos ER (dcell c 1 1) 1 ∅ 0 ∗ holds (c : Thread nD τ) (xin 1).view (got D c 1)) -∗ Kt ⟨⟩)
        -∗ wp frame (wpE (defs₀ (F := F)) 𝒱₀ (c : Thread nD τ) none) Set.univ (k0_part11 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u8 u11 u353 u211) Kt) := by
  rw [k0_part11_eq_skeleton]; unfold k0_part11_skel
  simp only [semSignalWord, semWaitWord, Prog.lift, Prog.bind_op, Prog.bind_ret, Prog.pure_eq_ret, wp_deviceId]
  iintro ⟨#Hsky, HO, Hans0, Hlb0, Hs40, Hc11, Ha11⟩ Hk
  unfold sendRes; icases Hs40 with ⟨HtS, HrS, HtR, HrR⟩
  iapply (send_step D K c _ 0 (dev10_at c) 4 5 2 rfl rfl rfl (ans 0) (back (slot c 0)) rfl (back_at0 c) (sem_send3 0) ((sem_at0 _ c).trans (sem_recv3 (slot c 0))) rfl (answer D c 0) (BIBase.Entails.rfl) (answer_land D c 0)) $$ [Hans0 Hlb0 HO HtS HrS HtR HrR]
  · isplitr; · iexact Hsky
    isplitl [Hans0]; · iexact Hans0
    isplitl [Hlb0]; · iexact Hlb0
    isplitl [HO]; · iexact HO
    isplitl [HtS]; · iexact HtS
    isplitl [HrS]; · iexact HrS
    isplitl [HtR]; · iexact HtR
    iexact HrR
  iintro ⟨Hc40, HO⟩
  iapply (wait_step D K c 1 1 2 (by decide) (sem_recvX 1) (dst := xin 1) rfl) $$ [Hc11 HO Ha11]
  · isplitr; · iexact Hsky
    isplitl [Hc11]; · iexact Hc11
    isplitl [HO]; · iexact HO
    iexact Ha11
  iintro ⟨HO, Ha11, Hxin1⟩
  ihave Hxin1 := (got_in D c 1) $$ Hxin1
  rw [wp_ret]; imodintro
  ihave Hk := Hk $$ [HO Hc40 Ha11 Hxin1]
  · isplitl [HO]; · iexact HO
    isplitl [Hc40]; · iexact Hc40
    isplitl [Ha11]; · iexact Ha11
    iexact Hxin1
  iexact Hk

/-- Tags from peer 1. -/
theorem part12_run {Kt : _ → sProp (MT nD τ sig Unit (Elt F) ℕ UU ℕ)} :
    iprop(sky D K
        ∗ owing c 2
        ∗ cred (tallyAt (dcell c 3 1) () (amt 3))
        ∗ atPos ER (dcell c 3 1) 0 ∅ 0
        ∗ holds (c : Thread nD τ) (xin 1).view (got D c 1)
        ∗ holds (c : Thread nD τ) w1M.view (wA D c)
        ∗ holds (c : Thread nD τ) w2M.view (wB D c))
      ⊢ iprop(((owing c 2 ∗ atPos ER (dcell c 3 1) 1 ∅ 0 ∗ holds (c : Thread nD τ) (xin 1).view (got D c 1) ∗ holds (c : Thread nD τ) (ain 1).view (gotTag D c 1) ∗ holds (c : Thread nD τ) w1M.view (wA D c) ∗ holds (c : Thread nD τ) w2M.view (wB D c)) -∗ Kt ⟨got D c 1, k0_pay25 (wz c) (got D c 1) (gotTag D c 1) (wA0 D c) (wB0 D c), k0_pay26 (F := F), k0_pay27 (wz c) (gotTag D c 1)⟩)
        -∗ wp frame (wpE (defs₀ (F := F)) 𝒱₀ (c : Thread nD τ) none) Set.univ (k0_part12 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 (wz c)) Kt) := by
  rw [k0_part12_eq_skeleton]; unfold k0_part12_skel
  simp only [semSignalWord, semWaitWord, Prog.lift, Prog.bind_op, Prog.bind_ret, Prog.pure_eq_ret, wp_deviceId]
  iintro ⟨#Hsky, HO, Hc31, Ha31, Hxin1, HwA, HwB⟩ Hk
  iapply (wait_step D K c 3 1 2 (by decide) (sem_recvA 1) (dst := ain 1) rfl) $$ [Hc31 HO Ha31]
  · isplitr; · iexact Hsky
    isplitl [Hc31]; · iexact Hc31
    isplitl [HO]; · iexact HO
    iexact Ha31
  iintro ⟨HO, Ha31, Hain1⟩
  ihave Hain1 := (tag_in D c 1) $$ Hain1
  iapply (load_slot (c : Thread nD τ) 𝒱₀ none Set.univ (m := xinM) (r := xinR 1) _) $$ Hxin1
  iintro Hxin1
  iapply (load_slot (c : Thread nD τ) 𝒱₀ none Set.univ (m := ainM) (r := ainR 1) _) $$ Hain1
  iintro Hain1
  iapply (load_part c (m := w1M) (Rect.unit (s := S2x512x1024) ![0, 0, 0] S1x512x1024.size inb_S2x512x1024_S1x512x1024_0_0_0) (wA D c) (wA0 D c) rfl) $$ HwA
  iintro HwA
  iapply (load_part c (m := w2M) (Rect.unit (s := S2x1024x512) ![0, 0, 0] S1x1024x512.size inb_S2x1024x512_S1x1024x512_0_0_0) (wB D c) (wB0 D c) rfl) $$ HwB
  iintro HwB
  rw [wp_ret]; imodintro
  ihave Hk := Hk $$ [HO Ha31 Hxin1 Hain1 HwA HwB]
  · isplitl [HO]; · iexact HO
    isplitl [Ha31]; · iexact Ha31
    isplitl [Hxin1]; · iexact Hxin1
    isplitl [Hain1]; · iexact Hain1
    isplitl [HwA]; · iexact HwA
    iexact HwB
  iexact Hk

/-- The answer to peer 1 stored and sent. -/
theorem part13_run (u2 u5 u8 u14 : BitVec 32) {Kt : _ → sProp (MT nD τ sig Unit (Elt F) ℕ UU ℕ)} :
    iprop(sky D K
        ∗ owing c 2
        ∗ holds (c : Thread nD τ) w1M.view (wA D c)
        ∗ holds (c : Thread nD τ) w2M.view (wB D c)
        ∗ somes (c : Thread nD τ) (ans 1).view
        ∗ somes (peer c 1 : Thread nD τ) (back (slot c 1)).view
        ∗ sendRes (F := F) c 4 5 1)
      ⊢ iprop(((owing c 1 ∗ cred (tallyAt (dcell c 4 1) () (amt 4)) ∗ holds (c : Thread nD τ) w1M.view (wA D c) ∗ holds (c : Thread nD τ) w2M.view (wB D c)) -∗ Kt ⟨Scalar.muli u2 8#32, 0#32⟩)
        -∗ wp frame (wpE (defs₀ (F := F)) 𝒱₀ (c : Thread nD τ) none) Set.univ (k0_part13 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u8 u14 (got D c 1) (k0_pay25 (wz c) (got D c 1) (gotTag D c 1) (wA0 D c) (wB0 D c)) (k0_pay26 (F := F)) (k0_pay27 (wz c) (gotTag D c 1))) Kt) := by
  rw [k0_part13_eq_skeleton]; unfold k0_part13_skel
  simp only [semSignalWord, semWaitWord, Prog.lift, Prog.bind_op, Prog.bind_ret, Prog.pure_eq_ret, wp_deviceId]
  iintro ⟨#Hsky, HO, HwA, HwB, Hans1, Hlb1, Hs41⟩ Hk
  iapply (load_part c (m := w1M) (Rect.unit (s := S2x512x1024) ![1, 0, 0] S1x512x1024.size inb_S2x512x1024_S1x512x1024_1_0_0) (wA D c) (wA1 D c) rfl) $$ HwA
  iintro HwA
  iapply (load_part c (m := w2M) (Rect.unit (s := S2x1024x512) ![1, 0, 0] S1x1024x512.size inb_S2x1024x512_S1x1024x512_1_0_0) (wB D c) (wB1 D c) rfl) $$ HwB
  iintro HwB
  iapply (load_somes (c : Thread nD τ) 𝒱₀ none Set.univ (m := ansM) (r := xinR 1) rfl) $$ Hans1
  iintro Hans1
  iapply (store_slot (c : Thread nD τ) 𝒱₀ none Set.univ (m := ansM) (r := xinR 1)) $$ Hans1
  iintro Hans1
  unfold sendRes; icases Hs41 with ⟨HtS, HrS, HtR, HrR⟩
  iapply (send_step D K c _ 1 (dev11_at c) 4 5 1 rfl rfl rfl (ans 1) (back (slot c 1)) rfl (back_at1 c) (sem_send3 1) ((sem_at1 _ c).trans (sem_recv3 (slot c 1))) rfl (answer D c 1) (BIBase.Entails.rfl) (answer_land D c 1)) $$ [Hans1 Hlb1 HO HtS HrS HtR HrR]
  · isplitr; · iexact Hsky
    isplitl [Hans1]; · iexact Hans1
    isplitl [Hlb1]; · iexact Hlb1
    isplitl [HO]; · iexact HO
    isplitl [HtS]; · iexact HtS
    isplitl [HrS]; · iexact HrS
    isplitl [HtR]; · iexact HtR
    iexact HrR
  iintro ⟨Hc41, HO⟩
  rw [wp_ret]; imodintro
  ihave Hk := Hk $$ [HO Hc41 HwA HwB]
  · isplitl [HO]; · iexact HO
    isplitl [Hc41]; · iexact Hc41
    isplitl [HwA]; · iexact HwA
    iexact HwB
  iexact Hk

/-- Rows and tags from peer 2. -/
theorem part14_run (u2 u5 u453 u285 : BitVec 32) {Kt : _ → sProp (MT nD τ sig Unit (Elt F) ℕ UU ℕ)} :
    iprop(sky D K
        ∗ owing c 1
        ∗ cred (tallyAt (dcell c 1 2) () (amt 1))
        ∗ atPos ER (dcell c 1 2) 0 ∅ 0
        ∗ cred (tallyAt (dcell c 3 2) () (amt 3))
        ∗ atPos ER (dcell c 3 2) 0 ∅ 0)
      ⊢ iprop(((owing c 1 ∗ atPos ER (dcell c 1 2) 1 ∅ 0 ∗ atPos ER (dcell c 3 2) 1 ∅ 0 ∗ holds (c : Thread nD τ) (xin 2).view (got D c 2) ∗ holds (c : Thread nD τ) (ain 2).view (gotTag D c 2)) -∗ Kt ⟨got D c 2, gotTag D c 2, k0_pay29 (F := F), k0_pay30 (F := F), k0_pay31 (wz c) (gotTag D c 2)⟩)
        -∗ wp frame (wpE (defs₀ (F := F)) 𝒱₀ (c : Thread nD τ) none) Set.univ (k0_part14 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 u2 u5 (wz c) u453 u285) Kt) := by
  rw [k0_part14_eq_skeleton]; unfold k0_part14_skel
  simp only [semSignalWord, semWaitWord, Prog.lift, Prog.bind_op, Prog.bind_ret, Prog.pure_eq_ret, wp_deviceId]
  iintro ⟨#Hsky, HO, Hc12, Ha12, Hc32, Ha32⟩ Hk
  iapply (wait_step D K c 1 2 1 (by decide) (sem_recvX 2) (dst := xin 2) rfl) $$ [Hc12 HO Ha12]
  · isplitr; · iexact Hsky
    isplitl [Hc12]; · iexact Hc12
    isplitl [HO]; · iexact HO
    iexact Ha12
  iintro ⟨HO, Ha12, Hxin2⟩
  ihave Hxin2 := (got_in D c 2) $$ Hxin2
  iapply (wait_step D K c 3 2 1 (by decide) (sem_recvA 2) (dst := ain 2) rfl) $$ [Hc32 HO Ha32]
  · isplitr; · iexact Hsky
    isplitl [Hc32]; · iexact Hc32
    isplitl [HO]; · iexact HO
    iexact Ha32
  iintro ⟨HO, Ha32, Hain2⟩
  ihave Hain2 := (tag_in D c 2) $$ Hain2
  iapply (load_slot (c : Thread nD τ) 𝒱₀ none Set.univ (m := xinM) (r := xinR 2) _) $$ Hxin2
  iintro Hxin2
  iapply (load_slot (c : Thread nD τ) 𝒱₀ none Set.univ (m := ainM) (r := ainR 2) _) $$ Hain2
  iintro Hain2
  rw [wp_ret]; imodintro
  ihave Hk := Hk $$ [HO Ha12 Ha32 Hxin2 Hain2]
  · isplitl [HO]; · iexact HO
    isplitl [Ha12]; · iexact Ha12
    isplitl [Ha32]; · iexact Ha32
    isplitl [Hxin2]; · iexact Hxin2
    iexact Hain2
  iexact Hk

/-- The answer to peer 2 computed. -/
theorem part15_run {Kt : _ → sProp (MT nD τ sig Unit (Elt F) ℕ UU ℕ)} :
    iprop(holds (c : Thread nD τ) w1M.view (wA D c)
        ∗ holds (c : Thread nD τ) w2M.view (wB D c)
        ∗ somes (c : Thread nD τ) (ans 2).view)
      ⊢ iprop((∀ v, (holds (c : Thread nD τ) w1M.view (wA D c) ∗ holds (c : Thread nD τ) w2M.view (wB D c) ∗ somes (c : Thread nD τ) (ans 2).view) -∗ Kt ⟨answer2 D c, v⟩)
        -∗ wp frame (wpE (defs₀ (F := F)) 𝒱₀ (c : Thread nD τ) none) Set.univ (k0_part15 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 (wz c) (got D c 2) (gotTag D c 2) (k0_pay29 (F := F)) (k0_pay30 (F := F)) (k0_pay31 (wz c) (gotTag D c 2))) Kt) := by
  rw [k0_part15_eq_skeleton]; unfold k0_part15_skel
  simp only [semSignalWord, semWaitWord, Prog.lift, Prog.bind_op, Prog.bind_ret, Prog.pure_eq_ret, wp_deviceId]
  iintro ⟨HwA, HwB, Hans2⟩ Hk
  iapply (load_part c (m := w1M) (Rect.unit (s := S2x512x1024) ![0, 0, 0] S1x512x1024.size inb_S2x512x1024_S1x512x1024_0_0_0) (wA D c) (wA0 D c) rfl) $$ HwA
  iintro HwA
  iapply (load_part c (m := w2M) (Rect.unit (s := S2x1024x512) ![0, 0, 0] S1x1024x512.size inb_S2x1024x512_S1x1024x512_0_0_0) (wB D c) (wB0 D c) rfl) $$ HwB
  iintro HwB
  iapply (load_part c (m := w1M) (Rect.unit (s := S2x512x1024) ![1, 0, 0] S1x512x1024.size inb_S2x512x1024_S1x512x1024_1_0_0) (wA D c) (wA1 D c) rfl) $$ HwA
  iintro HwA
  iapply (load_part c (m := w2M) (Rect.unit (s := S2x1024x512) ![1, 0, 0] S1x1024x512.size inb_S2x1024x512_S1x1024x512_1_0_0) (wB D c) (wB1 D c) rfl) $$ HwB
  iintro HwB
  ihave Hans2 := (somes_holds (c : Thread nD τ) _) $$ Hans2
  icases Hans2 with ⟨%v, Hans2⟩
  iapply (load_slot (c : Thread nD τ) 𝒱₀ none Set.univ (m := ansM) (r := xinR 2) _) $$ Hans2
  iintro Hans2
  ihave Hans2 := (holds_somes (c : Thread nD τ) _ _) $$ Hans2
  ispecialize Hk $$ %v
  rw [wp_ret]; imodintro
  ihave Hk := Hk $$ [HwA HwB Hans2]
  · isplitl [HwA]; · iexact HwA
    isplitl [HwB]; · iexact HwB
    iexact Hans2
  unfold answer2
  iexact Hk

/-- The answer sent to peer 2; the answers of peer 0. -/
theorem part16_run (u2 u5 u8 u17 : BitVec 32) (v : Vec F S160x512 .bf16) {Kt : _ → sProp (MT nD τ sig Unit (Elt F) ℕ UU ℕ)} :
    iprop(sky D K
        ∗ owing c 1
        ∗ somes (c : Thread nD τ) (ans 2).view
        ∗ somes (peer c 2 : Thread nD τ) (back (slot c 2)).view
        ∗ sendRes (F := F) c 4 5 2
        ∗ cred (tallyAt (dcell c 5 0) () (amt 5))
        ∗ atPos ER (dcell c 5 0) 0 ∅ 0)
      ⊢ iprop(((owing c 0 ∗ cred (tallyAt (dcell c 4 2) () (amt 4)) ∗ atPos ER (dcell c 5 0) 1 ∅ 0 ∗ holds (c : Thread nD τ) (backM.view.slice (cxR 0)) (reply3 D c 0)) -∗ Kt (k0_pay34 (pick0 D c) (own D c) (reply3 D c 0)))
        -∗ wp frame (wpE (defs₀ (F := F)) 𝒱₀ (c : Thread nD τ) none) Set.univ (k0_part16 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c u2 u5 u8 u17 (pick0 D c) (own D c) (answer2 D c) v) Kt) := by
  rw [k0_part16_eq_skeleton]; unfold k0_part16_skel
  simp only [semSignalWord, semWaitWord, Prog.lift, Prog.bind_op, Prog.bind_ret, Prog.pure_eq_ret, wp_deviceId]
  iintro ⟨#Hsky, HO, Hans2, Hlb2, Hs42, Hc50, Ha50⟩ Hk
  iapply (store_slot (c : Thread nD τ) 𝒱₀ none Set.univ (m := ansM) (r := xinR 2)) $$ Hans2
  iintro Hans2
  unfold sendRes; icases Hs42 with ⟨HtS, HrS, HtR, HrR⟩
  iapply (send_step D K c _ 2 (dev12_at c) 4 5 0 rfl rfl rfl (ans 2) (back (slot c 2)) rfl (back_at2 c) (sem_send3 2) ((sem_at2 _ c).trans (sem_recv3 (slot c 2))) rfl (answer D c 2) (BIBase.Entails.rfl) (answer_land D c 2)) $$ [Hans2 Hlb2 HO HtS HrS HtR HrR]
  · isplitr; · iexact Hsky
    isplitl [Hans2]; · iexact Hans2
    isplitl [Hlb2]; · iexact Hlb2
    isplitl [HO]; · iexact HO
    isplitl [HtS]; · iexact HtS
    isplitl [HrS]; · iexact HrS
    isplitl [HtR]; · iexact HtR
    iexact HrR
  iintro ⟨Hc42, HO⟩
  iapply (wait_step D K c 5 0 0 (by decide) (sem_recv3 0) (dst := back 0) rfl) $$ [Hc50 HO Ha50]
  · isplitr; · iexact Hsky
    isplitl [Hc50]; · iexact Hc50
    isplitl [HO]; · iexact HO
    iexact Ha50
  iintro ⟨HO, Ha50, Hback0⟩
  ihave Hback0 := (reply_deep D c 0) $$ Hback0
  iapply (load_slot (c : Thread nD τ) 𝒱₀ none Set.univ (m := backM) (r := cxR 0) _) $$ Hback0
  iintro Hback0
  rw [wp_ret]; imodintro
  ihave Hk := Hk $$ [HO Hc42 Ha50 Hback0]
  · isplitl [HO]; · iexact HO
    isplitl [Hc42]; · iexact Hc42
    isplitl [Ha50]; · iexact Ha50
    iexact Hback0
  iexact Hk

/-- The answers of peers 1 and 2. -/
theorem part17_run (u2 u5 u8 : BitVec 32) {Kt : _ → sProp (MT nD τ sig Unit (Elt F) ℕ UU ℕ)} :
    iprop(sky D K
        ∗ owing c 0
        ∗ cred (tallyAt (dcell c 5 1) () (amt 5))
        ∗ atPos ER (dcell c 5 1) 0 ∅ 0
        ∗ cred (tallyAt (dcell c 5 2) () (amt 5))
        ∗ atPos ER (dcell c 5 2) 0 ∅ 0)
      ⊢ iprop(((owing c 0 ∗ atPos ER (dcell c 5 1) 1 ∅ 0 ∗ atPos ER (dcell c 5 2) 1 ∅ 0 ∗ holds (c : Thread nD τ) (backM.view.slice (cxR 1)) (reply3 D c 1) ∗ holds (c : Thread nD τ) (backM.view.slice (cxR 2)) (reply3 D c 2)) -∗ Kt ⟨k0_pay35 (pick1 D c) (k0_pay34 (pick0 D c) (own D c) (reply3 D c 0)) (reply3 D c 1), k0_pay36 (reply3 D c 2), constant S512x512 .f32 0x00000000#32⟩)
        -∗ wp frame (wpE (defs₀ (F := F)) 𝒱₀ (c : Thread nD τ) none) Set.univ (k0_part17 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 u2 u5 u8 (pick1 D c) (k0_pay34 (pick0 D c) (own D c) (reply3 D c 0))) Kt) := by
  rw [k0_part17_eq_skeleton]; unfold k0_part17_skel
  simp only [semSignalWord, semWaitWord, Prog.lift, Prog.bind_op, Prog.bind_ret, Prog.pure_eq_ret, wp_deviceId]
  iintro ⟨#Hsky, HO, Hc51, Ha51, Hc52, Ha52⟩ Hk
  iapply (wait_step D K c 5 1 0 (by decide) (sem_recv3 1) (dst := back 1) rfl) $$ [Hc51 HO Ha51]
  · isplitr; · iexact Hsky
    isplitl [Hc51]; · iexact Hc51
    isplitl [HO]; · iexact HO
    iexact Ha51
  iintro ⟨HO, Ha51, Hback1⟩
  ihave Hback1 := (reply_deep D c 1) $$ Hback1
  iapply (load_slot (c : Thread nD τ) 𝒱₀ none Set.univ (m := backM) (r := cxR 1) _) $$ Hback1
  iintro Hback1
  iapply (wait_step D K c 5 2 0 (by decide) (sem_recv3 2) (dst := back 2) rfl) $$ [Hc52 HO Ha52]
  · isplitr; · iexact Hsky
    isplitl [Hc52]; · iexact Hc52
    isplitl [HO]; · iexact HO
    iexact Ha52
  iintro ⟨HO, Ha52, Hback2⟩
  ihave Hback2 := (reply_deep D c 2) $$ Hback2
  iapply (load_slot (c : Thread nD τ) 𝒱₀ none Set.univ (m := backM) (r := cxR 2) _) $$ Hback2
  iintro Hback2
  rw [wp_ret]; imodintro
  ihave Hk := Hk $$ [HO Ha51 Ha52 Hback1 Hback2]
  · isplitl [HO]; · iexact HO
    isplitl [Ha51]; · iexact Ha51
    isplitl [Ha52]; · iexact Ha52
    isplitl [Hback1]; · iexact Hback1
    iexact Hback2
  iexact Hk

/-- The result stored; the first sent rows and tags back. -/
theorem part18_run {Kt : _ → sProp (MT nD τ sig Unit (Elt F) ℕ UU ℕ)} :
    iprop(sky D K
        ∗ owing c 0
        ∗ somes (c : Thread nD τ) arg5.view
        ∗ cred (tallyAt (dcell c 0 0) () (amt 0))
        ∗ atPos ER (dcell c 0 0) 0 ∅ 0
        ∗ cred (tallyAt (dcell c 2 0) () (amt 2))
        ∗ atPos ER (dcell c 2 0) 0 ∅ 0
        ∗ cred (tallyAt (dcell c 0 1) () (amt 0))
        ∗ atPos ER (dcell c 0 1) 0 ∅ 0
        ∗ cred (tallyAt (dcell c 2 1) () (amt 2))
        ∗ atPos ER (dcell c 2 1) 0 ∅ 0)
      ⊢ iprop(((owing c 0 ∗ holds (c : Thread nD τ) arg5.view (result D c) ∗ atPos ER (dcell c 0 0) 1 ∅ 0 ∗ dmaPay D c 0 0 ∗ atPos ER (dcell c 2 0) 1 ∅ 0 ∗ dmaPay D c 2 0 ∗ atPos ER (dcell c 0 1) 1 ∅ 0 ∗ dmaPay D c 0 1 ∗ atPos ER (dcell c 2 1) 1 ∅ 0 ∗ dmaPay D c 2 1) -∗ Kt ⟨⟩)
        -∗ wp frame (wpE (defs₀ (F := F)) 𝒱₀ (c : Thread nD τ) none) Set.univ (k0_part18 (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c (pick2 D c) (k0_pay35 (pick1 D c) (k0_pay34 (pick0 D c) (own D c) (reply3 D c 0)) (reply3 D c 1)) (k0_pay36 (reply3 D c 2)) (constant S512x512 .f32 0x00000000#32)) Kt) := by
  rw [k0_part18_eq_skeleton]; unfold k0_part18_skel
  simp only [semSignalWord, semWaitWord, Prog.lift, Prog.bind_op, Prog.bind_ret, Prog.pure_eq_ret, wp_deviceId]
  iintro ⟨#Hsky, HO, Hout, Hc00, Ha00, Hc20, Ha20, Hc01, Ha01, Hc21, Ha21⟩ Hk
  iapply (load_drop_whole (c : Thread nD τ) (m := arg5) zero2 rfl) $$ Hout
  iintro Hout
  iapply (store_whole (c : Thread nD τ) (m := arg5) zero2 (result D c)) $$ Hout
  iintro Hout
  iapply (wait_step D K c 0 0 0 (by decide) (sem_sendX 0) (dst := cx 0) rfl) $$ [Hc00 HO Ha00]
  · isplitr; · iexact Hsky
    isplitl [Hc00]; · iexact Hc00
    isplitl [HO]; · iexact HO
    iexact Ha00
  iintro ⟨HO, Ha00, Hp00⟩
  iapply (wait_step D K c 2 0 0 (by decide) (sem_sendA 0) (dst := ca 0) rfl) $$ [Hc20 HO Ha20]
  · isplitr; · iexact Hsky
    isplitl [Hc20]; · iexact Hc20
    isplitl [HO]; · iexact HO
    iexact Ha20
  iintro ⟨HO, Ha20, Hp20⟩
  iapply (wait_step D K c 0 1 0 (by decide) (sem_sendX 1) (dst := cx 1) rfl) $$ [Hc01 HO Ha01]
  · isplitr; · iexact Hsky
    isplitl [Hc01]; · iexact Hc01
    isplitl [HO]; · iexact HO
    iexact Ha01
  iintro ⟨HO, Ha01, Hp01⟩
  iapply (wait_step D K c 2 1 0 (by decide) (sem_sendA 1) (dst := ca 1) rfl) $$ [Hc21 HO Ha21]
  · isplitr; · iexact Hsky
    isplitl [Hc21]; · iexact Hc21
    isplitl [HO]; · iexact HO
    iexact Ha21
  iintro ⟨HO, Ha21, Hp21⟩
  rw [wp_ret]; imodintro
  ihave Hk := Hk $$ [HO Hout Ha00 Hp00 Ha20 Hp20 Ha01 Hp01 Ha21 Hp21]
  · isplitl [HO]; · iexact HO
    isplitl [Hout]; · iexact Hout
    isplitl [Ha00]; · iexact Ha00
    isplitl [Hp00]; · iexact Hp00
    isplitl [Ha20]; · iexact Ha20
    isplitl [Hp20]; · iexact Hp20
    isplitl [Ha01]; · iexact Ha01
    isplitl [Hp01]; · iexact Hp01
    isplitl [Ha21]; · iexact Ha21
    iexact Hp21
  iexact Hk

end Cert.KernelIdeal.Moe

end
-- ==== Proof.Body.lean ====
/- The whole kernel body: from what one device starts with to what it ends with, the result in its output window. -/
module

public import proofs.«01_k».proof.Proof.BodyA
public import proofs.«01_k».proof.Proof.BodyB

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device has, before the body, for its exchange with peer `i`: what its signal consumes, the duties of its three
    transfers, its three parts of the buffers that it sends from, and what it waits with. -/
def linkPre (c : Dev nD) (i : Fin 3) : sProp 𝕄 :=
  iprop(sigRes c i
    ∗ (dutyTok ER (dcell c 0 i) 0 0 ∗ reached ER (dcell c 0 i) 0 ∗ dutyTok ER (dcell (peer c i) 1 (slot c i)) 0 0)
    ∗ (dutyTok ER (dcell c 2 i) 0 0 ∗ reached ER (dcell c 2 i) 0 ∗ dutyTok ER (dcell (peer c i) 3 (slot c i)) 0 0)
    ∗ (dutyTok ER (dcell c 4 i) 0 0 ∗ reached ER (dcell c 4 i) 0 ∗ dutyTok ER (dcell (peer c i) 5 (slot c i)) 0 0)
    ∗ somes (c : Thread nD τ) (cxM.view.slice (cxR i)) ∗ somes (c : Thread nD τ) (caM.view.slice (caR i)) ∗ somes (c : Thread nD τ) (ans i).view
    ∗ cred (tallyAt (dcell c 1 i) () (amt 1)) ∗ cred (tallyAt (dcell c 3 i) () (amt 3)) ∗ cred (tallyAt (dcell c 5 i) () (amt 5))
    ∗ atPos ER (dcell c 0 i) 0 ∅ 0 ∗ atPos ER (dcell c 1 i) 0 ∅ 0 ∗ atPos ER (dcell c 2 i) 0 ∅ 0
    ∗ atPos ER (dcell c 3 i) 0 ∅ 0 ∗ atPos ER (dcell c 4 i) 0 ∅ 0 ∗ atPos ER (dcell c 5 i) 0 ∅ 0)

/-- What it has of that exchange after the body: every part of the buffers back, and its six semaphores waited for. -/
def linkPost (c : Dev nD) (i : Fin 3) : sProp 𝕄 :=
  iprop((somes (c : Thread nD τ) (cx i).view ∗ somes (c : Thread nD τ) (ca i).view ∗ somes (c : Thread nD τ) (xin i).view
      ∗ somes (c : Thread nD τ) (ain i).view ∗ somes (c : Thread nD τ) (ans i).view ∗ somes (c : Thread nD τ) (backM.view.slice (cxR i)))
    ∗ atPos ER (dcell c 0 i) 1 ∅ 0 ∗ atPos ER (dcell c 1 i) 1 ∅ 0 ∗ atPos ER (dcell c 2 i) 1 ∅ 0
    ∗ atPos ER (dcell c 3 i) 1 ∅ 0 ∗ atPos ER (dcell c 4 i) 1 ∅ 0 ∗ atPos ER (dcell c 5 i) 1 ∅ 0)

theorem send_ready (c : Dev nD) (a b : Fin 6) (i : Fin 3) :
    iprop((dutyTok ER (dcell c a i) 0 0 ∗ reached ER (dcell c a i) 0 ∗ dutyTok ER (dcell (peer c i) b (slot c i)) 0 0)
      ∗ reached ER (dcell (peer c i) b (slot c i)) 0) ⊢ sendRes (F := F) c a b i := by
  unfold sendRes
  iintro ⟨⟨H1, H2, H3⟩, H4⟩
  isplitl [H1]; · iexact H1
  isplitl [H2]; · iexact H2
  isplitl [H3]; · iexact H3
  iexact H4

theorem linkPost_intro (D : Data F) (c : Dev nD) (i : Fin 3) :
    iprop((dmaPay D c 0 i ∗ dmaPay D c 2 i ∗ holds (Val := Elt F) (c : Thread nD τ) (xin i).view (got D c i)
      ∗ holds (Val := Elt F) (c : Thread nD τ) (ain i).view (gotTag D c i) ∗ dmaPay D c 4 i ∗ holds (Val := Elt F) (c : Thread nD τ) (backM.view.slice (cxR i)) (reply3 D c i))
      ∗ atPos ER (dcell c 0 i) 1 ∅ 0 ∗ atPos ER (dcell c 1 i) 1 ∅ 0 ∗ atPos ER (dcell c 2 i) 1 ∅ 0
      ∗ atPos ER (dcell c 3 i) 1 ∅ 0 ∗ atPos ER (dcell c 4 i) 1 ∅ 0 ∗ atPos ER (dcell c 5 i) 1 ∅ 0)
      ⊢ linkPost (F := F) c i := by
  unfold linkPost
  refine Laws.sep_mono ?_ BIBase.Entails.rfl
  have h0 : dmaPay D c 0 i ⊢ somes (c : Thread nD τ) (cx i).view := holds_somes (Val := Elt F) (c : Thread nD τ) (cx i).view (rows D c i)
  have h2 : dmaPay D c 2 i ⊢ somes (c : Thread nD τ) (ca i).view := holds_somes (Val := Elt F) (c : Thread nD τ) (ca i).view (rtag D c i)
  have h4 : dmaPay D c 4 i ⊢ somes (c : Thread nD τ) (ans i).view := holds_somes (Val := Elt F) (c : Thread nD τ) (ans i).view (answer D c i)
  exact Laws.sep_mono h0 (Laws.sep_mono h2 (Laws.sep_mono (holds_somes _ _ _) (Laws.sep_mono (holds_somes _ _ _) (Laws.sep_mono h4 (holds_somes _ _ _)))))

variable (D : Data F) (K : GSem nD τ sig → ℕ) (c : Dev nD)
variable (arg0 : Memref sig .tc .vmem S512x512 .bf16) (harg0 : arg0.IsWhole) (arg1 : Memref sig .tc .vmem S512x1 .i32) (harg1 : arg1.IsWhole)
variable (arg2 : Memref sig .tc .vmem S1x512 .i32) (harg2 : arg2.IsWhole) (arg3 : Memref sig .tc .vmem S2x512x1024 .bf16) (harg3 : arg3.IsWhole)
variable (arg4 : Memref sig .tc .vmem S2x1024x512 .bf16) (harg4 : arg4.IsWhole) (arg5 : Memref sig .tc .vmem S512x512 .f32) (harg5 : arg5.IsWhole)

set_option maxHeartbeats 4000000 in
/-- The body of the kernel on device `c`. -/
theorem body_run {Kt : PUnit → sProp (MT nD τ sig Unit (Elt F) ℕ UU ℕ)} :
    iprop(sky D K
        ∗ owing c 12
        ∗ cred (tallyAt (bar c) () 3)
        ∗ atPos ER (bar c) 0 ∅ 0
        ∗ linkPre (F := F) c 0
        ∗ linkPre (F := F) c 1
        ∗ linkPre (F := F) c 2
        ∗ holds (c : Thread nD τ) arg0.view (D.x c)
        ∗ holds (c : Thread nD τ) arg1.view (D.a1 c)
        ∗ holds (c : Thread nD τ) arg2.view (D.a2 c)
        ∗ holds (c : Thread nD τ) arg3.view (D.w1 c)
        ∗ holds (c : Thread nD τ) arg4.view (D.w2 c)
        ∗ somes (c : Thread nD τ) arg5.view
        ∗ somes (c : Thread nD τ) w1M.view
        ∗ somes (c : Thread nD τ) w2M.view)
      ⊢ iprop(((owing c 0
          ∗ atPos ER (bar c) 1 ∅ 0
          ∗ linkPost (F := F) c 0
          ∗ linkPost (F := F) c 1
          ∗ linkPost (F := F) c 2
          ∗ holds (c : Thread nD τ) arg0.view (D.x c)
          ∗ holds (c : Thread nD τ) arg1.view (D.a1 c)
          ∗ holds (c : Thread nD τ) arg2.view (D.a2 c)
          ∗ holds (c : Thread nD τ) arg3.view (D.w1 c)
          ∗ holds (c : Thread nD τ) arg4.view (D.w2 c)
          ∗ holds (c : Thread nD τ) arg5.view (result D c)
          ∗ somes (c : Thread nD τ) w1M.view
          ∗ somes (c : Thread nD τ) w2M.view) -∗ Kt ⟨⟩)
        -∗ wp frame (wpE (defs₀ (F := F)) 𝒱₀ (c : Thread nD τ) none) Set.univ (cc0_body (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Kt) := by
  rw [cc0_body_eq_skeleton]; unfold cc0_body_skel
  rw [wp_bind, k0_part19_eq_skeleton]; unfold k0_part19_skel
  iintro ⟨#Hsky, HO, HcB, HaB, Hl0, Hl1, Hl2, Hx0, Hx1, Hx2, Hx3, Hx4, Hout, HwA, HwB⟩ Hk
  unfold linkPre
  icases Hl0 with ⟨Hg0, Ht00, Ht20, Ht40, Hcx0, Hca0, Hans0, Hc10, Hc30, Hc50, Ha00, Ha10, Ha20, Ha30, Ha40, Ha50⟩
  icases Hl1 with ⟨Hg1, Ht01, Ht21, Ht41, Hcx1, Hca1, Hans1, Hc11, Hc31, Hc51, Ha01, Ha11, Ha21, Ha31, Ha41, Ha51⟩
  icases Hl2 with ⟨Hg2, Ht02, Ht22, Ht42, Hcx2, Hca2, Hans2, Hc12, Hc32, Hc52, Ha02, Ha12, Ha22, Ha32, Ha42, Ha52⟩
  rw [wp_bind]
  iapply (part1_run D K c arg0 harg0 arg1 harg1 arg2 harg2 arg3 harg3 arg4 harg4 arg5 harg5) $$ [HO Hg0 Hg1]
  · isplitr; · iexact Hsky
    isplitl [HO]; · iexact HO
    isplitl [Hg0]; · iexact Hg0
    iexact Hg1
  iintro HO
  rw [wp_bind]
  iapply (part2_run D K c arg0 harg0 arg1 harg1 arg2 harg2 arg3 harg3 arg4 harg4 arg5 harg5 _ _ _) $$ [HO Hg2 HcB HaB Hx0 Hx1 Hx2]
  · isplitr; · iexact Hsky
    isplitl [HO]; · iexact HO
    isplitl [Hg2]; · iexact Hg2
    isplitl [HcB]; · iexact HcB
    isplitl [HaB]; · iexact HaB
    isplitl [Hx0]; · iexact Hx0
    isplitl [Hx1]; · iexact Hx1
    iexact Hx2
  iintro ⟨HO, HaB, Hb0, Hb1, Hb2, Hx0, Hx1, Hx2⟩
  unfold barPay; icases Hb0 with ⟨Hlx0, Hla0, Hlb0, Hr10, Hr30, Hr50⟩
  ihave Hs00 := (send_ready (F := F) c 0 1 0) $$ [Ht00 Hr10]
  · isplitl [Ht00]; · iexact Ht00
    iexact Hr10
  ihave Hs20 := (send_ready (F := F) c 2 3 0) $$ [Ht20 Hr30]
  · isplitl [Ht20]; · iexact Ht20
    iexact Hr30
  ihave Hs40 := (send_ready (F := F) c 4 5 0) $$ [Ht40 Hr50]
  · isplitl [Ht40]; · iexact Ht40
    iexact Hr50
  icases Hb1 with ⟨Hlx1, Hla1, Hlb1, Hr11, Hr31, Hr51⟩
  ihave Hs01 := (send_ready (F := F) c 0 1 1) $$ [Ht01 Hr11]
  · isplitl [Ht01]; · iexact Ht01
    iexact Hr11
  ihave Hs21 := (send_ready (F := F) c 2 3 1) $$ [Ht21 Hr31]
  · isplitl [Ht21]; · iexact Ht21
    iexact Hr31
  ihave Hs41 := (send_ready (F := F) c 4 5 1) $$ [Ht41 Hr51]
  · isplitl [Ht41]; · iexact Ht41
    iexact Hr51
  icases Hb2 with ⟨Hlx2, Hla2, Hlb2, Hr12, Hr32, Hr52⟩
  ihave Hs02 := (send_ready (F := F) c 0 1 2) $$ [Ht02 Hr12]
  · isplitl [Ht02]; · iexact Ht02
    iexact Hr12
  ihave Hs22 := (send_ready (F := F) c 2 3 2) $$ [Ht22 Hr32]
  · isplitl [Ht22]; · iexact Ht22
    iexact Hr32
  ihave Hs42 := (send_ready (F := F) c 4 5 2) $$ [Ht42 Hr52]
  · isplitl [Ht42]; · iexact Ht42
    iexact Hr52
  rw [wp_bind]
  iapply (part3_run D K c arg0 harg0 arg1 harg1 arg2 harg2 arg3 harg3 arg4 harg4 arg5 harg5 _ _ _ _) $$ [HO Hcx0 Hca0 Hlx0 Hs00]
  · isplitr; · iexact Hsky
    isplitl [HO]; · iexact HO
    isplitl [Hcx0]; · iexact Hcx0
    isplitl [Hca0]; · iexact Hca0
    isplitl [Hlx0]; · iexact Hlx0
    iexact Hs00
  iintro ⟨HO, Hc00, Hca0⟩
  rw [wp_bind]
  iapply (part4_run D K c arg0 harg0 arg1 harg1 arg2 harg2 arg3 harg3 arg4 harg4 arg5 harg5 _ _) $$ [HO Hca0 Hla0 Hs20 Hcx1 Hca1]
  · isplitr; · iexact Hsky
    isplitl [HO]; · iexact HO
    isplitl [Hca0]; · iexact Hca0
    isplitl [Hla0]; · iexact Hla0
    isplitl [Hs20]; · iexact Hs20
    isplitl [Hcx1]; · iexact Hcx1
    iexact Hca1
  iintro ⟨HO, Hc20, Hcx1, Hca1⟩
  rw [wp_bind]
  iapply (part5_run D K c arg0 harg0 arg1 harg1 arg2 harg2 arg3 harg3 arg4 harg4 arg5 harg5 _ _ _ _ _) $$ [HO Hcx1 Hca1 Hlx1 Hla1 Hs01 Hs21]
  · isplitr; · iexact Hsky
    isplitl [HO]; · iexact HO
    isplitl [Hcx1]; · iexact Hcx1
    isplitl [Hca1]; · iexact Hca1
    isplitl [Hlx1]; · iexact Hlx1
    isplitl [Hla1]; · iexact Hla1
    isplitl [Hs01]; · iexact Hs01
    iexact Hs21
  iintro ⟨HO, Hc01, Hc21⟩
  rw [wp_bind]
  iapply (part6_run D K c arg0 harg0 arg1 harg1 arg2 harg2 arg3 harg3 arg4 harg4 arg5 harg5 _ _ _ _) $$ [HO Hcx2 Hca2 Hlx2 Hs02]
  · isplitr; · iexact Hsky
    isplitl [HO]; · iexact HO
    isplitl [Hcx2]; · iexact Hcx2
    isplitl [Hca2]; · iexact Hca2
    isplitl [Hlx2]; · iexact Hlx2
    iexact Hs02
  iintro ⟨HO, Hc02, Hca2⟩
  rw [wp_bind]
  iapply (part7_run D K c arg0 harg0 arg1 harg1 arg2 harg2 arg3 harg3 arg4 harg4 arg5 harg5) $$ [HO Hca2 Hla2 Hs22 Hx3 Hx4 HwA HwB]
  · isplitr; · iexact Hsky
    isplitl [HO]; · iexact HO
    isplitl [Hca2]; · iexact Hca2
    isplitl [Hla2]; · iexact Hla2
    isplitl [Hs22]; · iexact Hs22
    isplitl [Hx3]; · iexact Hx3
    isplitl [Hx4]; · iexact Hx4
    isplitl [HwA]; · iexact HwA
    iexact HwB
  iintro ⟨HO, Hc22, Hx3, Hx4, HwA, HwB⟩
  rw [wp_bind]
  iapply (part8_run D c arg0 harg0 arg1 harg1 arg2 harg2 arg3 harg3 arg4 harg4 arg5 harg5 _ _) $$ [HwA HwB]
  · isplitl [HwA]; · iexact HwA
    iexact HwB
  iintro ⟨HwA, HwB⟩
  rw [wp_bind]
  iapply (part9_run D K c arg0 harg0 arg1 harg1 arg2 harg2 arg3 harg3 arg4 harg4 arg5 harg5 _ _) $$ [HO Hc10 Ha10 Hc30 Ha30 HwA]
  · isplitr; · iexact Hsky
    isplitl [HO]; · iexact HO
    isplitl [Hc10]; · iexact Hc10
    isplitl [Ha10]; · iexact Ha10
    isplitl [Hc30]; · iexact Hc30
    isplitl [Ha30]; · iexact Ha30
    iexact HwA
  iintro ⟨HO, Ha10, Ha30, Hxin0, Hain0, HwA⟩
  rw [wp_bind]
  iapply (part10_run D c arg0 harg0 arg1 harg1 arg2 harg2 arg3 harg3 arg4 harg4 arg5 harg5 _ _) $$ [HwA HwB Hans0]
  · isplitl [HwA]; · iexact HwA
    isplitl [HwB]; · iexact HwB
    iexact Hans0
  iintro ⟨HwA, HwB, Hans0⟩
  rw [wp_bind]
  iapply (part11_run D K c arg0 harg0 arg1 harg1 arg2 harg2 arg3 harg3 arg4 harg4 arg5 harg5 _ _ _ _ _ _) $$ [HO Hans0 Hlb0 Hs40 Hc11 Ha11]
  · isplitr; · iexact Hsky
    isplitl [HO]; · iexact HO
    isplitl [Hans0]; · iexact Hans0
    isplitl [Hlb0]; · iexact Hlb0
    isplitl [Hs40]; · iexact Hs40
    isplitl [Hc11]; · iexact Hc11
    iexact Ha11
  iintro ⟨HO, Hc40, Ha11, Hxin1⟩
  rw [wp_bind]
  iapply (part12_run D K c arg0 harg0 arg1 harg1 arg2 harg2 arg3 harg3 arg4 harg4 arg5 harg5) $$ [HO Hc31 Ha31 Hxin1 HwA HwB]
  · isplitr; · iexact Hsky
    isplitl [HO]; · iexact HO
    isplitl [Hc31]; · iexact Hc31
    isplitl [Ha31]; · iexact Ha31
    isplitl [Hxin1]; · iexact Hxin1
    isplitl [HwA]; · iexact HwA
    iexact HwB
  iintro ⟨HO, Ha31, Hxin1, Hain1, HwA, HwB⟩
  rw [wp_bind]
  iapply (part13_run D K c arg0 harg0 arg1 harg1 arg2 harg2 arg3 harg3 arg4 harg4 arg5 harg5 _ _ _ _) $$ [HO HwA HwB Hans1 Hlb1 Hs41]
  · isplitr; · iexact Hsky
    isplitl [HO]; · iexact HO
    isplitl [HwA]; · iexact HwA
    isplitl [HwB]; · iexact HwB
    isplitl [Hans1]; · iexact Hans1
    isplitl [Hlb1]; · iexact Hlb1
    iexact Hs41
  iintro ⟨HO, Hc41, HwA, HwB⟩
  rw [wp_bind]
  iapply (part14_run D K c arg0 harg0 arg1 harg1 arg2 harg2 arg3 harg3 arg4 harg4 arg5 harg5 _ _ _ _) $$ [HO Hc12 Ha12 Hc32 Ha32]
  · isplitr; · iexact Hsky
    isplitl [HO]; · iexact HO
    isplitl [Hc12]; · iexact Hc12
    isplitl [Ha12]; · iexact Ha12
    isplitl [Hc32]; · iexact Hc32
    iexact Ha32
  iintro ⟨HO, Ha12, Ha32, Hxin2, Hain2⟩
  rw [wp_bind]
  iapply (part15_run D c arg0 harg0 arg1 harg1 arg2 harg2 arg3 harg3 arg4 harg4 arg5 harg5) $$ [HwA HwB Hans2]
  · isplitl [HwA]; · iexact HwA
    isplitl [HwB]; · iexact HwB
    iexact Hans2
  iintro %v ⟨HwA, HwB, Hans2⟩
  rw [wp_bind]
  iapply (part16_run D K c arg0 harg0 arg1 harg1 arg2 harg2 arg3 harg3 arg4 harg4 arg5 harg5 _ _ _ _ _) $$ [HO Hans2 Hlb2 Hs42 Hc50 Ha50]
  · isplitr; · iexact Hsky
    isplitl [HO]; · iexact HO
    isplitl [Hans2]; · iexact Hans2
    isplitl [Hlb2]; · iexact Hlb2
    isplitl [Hs42]; · iexact Hs42
    isplitl [Hc50]; · iexact Hc50
    iexact Ha50
  iintro ⟨HO, Hc42, Ha50, Hback0⟩
  rw [wp_bind]
  iapply (part17_run D K c arg0 harg0 arg1 harg1 arg2 harg2 arg3 harg3 arg4 harg4 arg5 harg5 _ _ _) $$ [HO Hc51 Ha51 Hc52 Ha52]
  · isplitr; · iexact Hsky
    isplitl [HO]; · iexact HO
    isplitl [Hc51]; · iexact Hc51
    isplitl [Ha51]; · iexact Ha51
    isplitl [Hc52]; · iexact Hc52
    iexact Ha52
  iintro ⟨HO, Ha51, Ha52, Hback1, Hback2⟩
  rw [wp_bind]
  iapply (part18_run D K c arg0 harg0 arg1 harg1 arg2 harg2 arg3 harg3 arg4 harg4 arg5 harg5) $$ [HO Hout Hc00 Ha00 Hc20 Ha20 Hc01 Ha01 Hc21 Ha21]
  · isplitr; · iexact Hsky
    isplitl [HO]; · iexact HO
    isplitl [Hout]; · iexact Hout
    isplitl [Hc00]; · iexact Hc00
    isplitl [Ha00]; · iexact Ha00
    isplitl [Hc20]; · iexact Hc20
    isplitl [Ha20]; · iexact Ha20
    isplitl [Hc01]; · iexact Hc01
    isplitl [Ha01]; · iexact Ha01
    isplitl [Hc21]; · iexact Hc21
    iexact Ha21
  iintro ⟨HO, Hout, Ha00, Hp00, Ha20, Hp20, Ha01, Hp01, Ha21, Hp21⟩
  simp only [Prog.lift, Prog.bind_op, Prog.bind_ret, Prog.pure_eq_ret]
  iapply (wait_step D K c 0 2 0 (by decide) (sem_sendX 2) (dst := cx 2) rfl) $$ [Hc02 HO Ha02]
  · isplitr; · iexact Hsky
    isplitl [Hc02]; · iexact Hc02
    isplitl [HO]; · iexact HO
    iexact Ha02
  iintro ⟨HO, Ha02, Hp02⟩
  iapply (wait_step D K c 2 2 0 (by decide) (sem_sendA 2) (dst := ca 2) rfl) $$ [Hc22 HO Ha22]
  · isplitr; · iexact Hsky
    isplitl [Hc22]; · iexact Hc22
    isplitl [HO]; · iexact HO
    iexact Ha22
  iintro ⟨HO, Ha22, Hp22⟩
  iapply (wait_step D K c 4 0 0 (by decide) (sem_send3 0) (dst := ans 0) rfl) $$ [Hc40 HO Ha40]
  · isplitr; · iexact Hsky
    isplitl [Hc40]; · iexact Hc40
    isplitl [HO]; · iexact HO
    iexact Ha40
  iintro ⟨HO, Ha40, Hp40⟩
  iapply (wait_step D K c 4 1 0 (by decide) (sem_send3 1) (dst := ans 1) rfl) $$ [Hc41 HO Ha41]
  · isplitr; · iexact Hsky
    isplitl [Hc41]; · iexact Hc41
    isplitl [HO]; · iexact HO
    iexact Ha41
  iintro ⟨HO, Ha41, Hp41⟩
  rw [wp_ret]; imodintro
  iapply (wait_step D K c 4 2 0 (by decide) (sem_send3 2) (dst := ans 2) rfl) $$ [Hc42 HO Ha42]
  · isplitr; · iexact Hsky
    isplitl [Hc42]; · iexact Hc42
    isplitl [HO]; · iexact HO
    iexact Ha42
  iintro ⟨HO, Ha42, Hp42⟩
  rw [wp_ret]; imodintro
  ihave Hl0 := (linkPost_intro D c 0) $$ [Hp00 Hp20 Hxin0 Hain0 Hp40 Hback0 Ha00 Ha10 Ha20 Ha30 Ha40 Ha50]
  · isplitl [Hp00 Hp20 Hxin0 Hain0 Hp40 Hback0]
    · isplitl [Hp00]; · iexact Hp00
      isplitl [Hp20]; · iexact Hp20
      isplitl [Hxin0]; · iexact Hxin0
      isplitl [Hain0]; · iexact Hain0
      isplitl [Hp40]; · iexact Hp40
      iexact Hback0
    isplitl [Ha00]; · iexact Ha00
    isplitl [Ha10]; · iexact Ha10
    isplitl [Ha20]; · iexact Ha20
    isplitl [Ha30]; · iexact Ha30
    isplitl [Ha40]; · iexact Ha40
    iexact Ha50
  ihave Hl1 := (linkPost_intro D c 1) $$ [Hp01 Hp21 Hxin1 Hain1 Hp41 Hback1 Ha01 Ha11 Ha21 Ha31 Ha41 Ha51]
  · isplitl [Hp01 Hp21 Hxin1 Hain1 Hp41 Hback1]
    · isplitl [Hp01]; · iexact Hp01
      isplitl [Hp21]; · iexact Hp21
      isplitl [Hxin1]; · iexact Hxin1
      isplitl [Hain1]; · iexact Hain1
      isplitl [Hp41]; · iexact Hp41
      iexact Hback1
    isplitl [Ha01]; · iexact Ha01
    isplitl [Ha11]; · iexact Ha11
    isplitl [Ha21]; · iexact Ha21
    isplitl [Ha31]; · iexact Ha31
    isplitl [Ha41]; · iexact Ha41
    iexact Ha51
  ihave Hl2 := (linkPost_intro D c 2) $$ [Hp02 Hp22 Hxin2 Hain2 Hp42 Hback2 Ha02 Ha12 Ha22 Ha32 Ha42 Ha52]
  · isplitl [Hp02 Hp22 Hxin2 Hain2 Hp42 Hback2]
    · isplitl [Hp02]; · iexact Hp02
      isplitl [Hp22]; · iexact Hp22
      isplitl [Hxin2]; · iexact Hxin2
      isplitl [Hain2]; · iexact Hain2
      isplitl [Hp42]; · iexact Hp42
      iexact Hback2
    isplitl [Ha02]; · iexact Ha02
    isplitl [Ha12]; · iexact Ha12
    isplitl [Ha22]; · iexact Ha22
    isplitl [Ha32]; · iexact Ha32
    isplitl [Ha42]; · iexact Ha42
    iexact Ha52
  ihave HwA := (holds_somes (c : Thread nD τ) w1M.view (wA D c)) $$ HwA
  ihave HwB := (holds_somes (c : Thread nD τ) w2M.view (wB D c)) $$ HwB
  iapply Hk $$ [HO HaB Hl0 Hl1 Hl2 Hx0 Hx1 Hx2 Hx3 Hx4 Hout HwA HwB]
  · isplitl [HO]; · iexact HO
    isplitl [HaB]; · iexact HaB
    isplitl [Hl0]; · iexact Hl0
    isplitl [Hl1]; · iexact Hl1
    isplitl [Hl2]; · iexact Hl2
    isplitl [Hx0]; · iexact Hx0
    isplitl [Hx1]; · iexact Hx1
    isplitl [Hx2]; · iexact Hx2
    isplitl [Hx3]; · iexact Hx3
    isplitl [Hx4]; · iexact Hx4
    isplitl [Hout]; · iexact Hout
    isplitl [HwA]; · iexact HwA
    iexact HwB

end Cert.KernelIdeal.Moe

end
-- ==== Proof.Parts.lean ====
/- The kernel's buffers in the three parts it works on, one per peer. -/
module

public import proofs.«01_k».proof.Proof.Protocol

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Three

variable (c : Dev nD) (b : Ref sig .tc) (R : Fin 3 → Rect b.ty.shape)
  (hd : ∀ i j, i ≠ j → Disjoint (R i).set (R j).set) (hc : ∀ x : b.ty.shape.Idx, ∃ i, x ∈ (R i).set)

theorem set_part (r : Rect b.ty.shape) : ((Memref.whole b).view.slice r).set = r.set := View.set_slice_whole b r

include hc in
theorem three_cover : (((Memref.whole b).view.slice (R 0)).set ∪ ((Memref.whole b).view.slice (R 1)).set) ∪ ((Memref.whole b).view.slice (R 2)).set
    = Finset.univ := by
  refine Finset.eq_univ_of_forall fun x => ?_
  rw [set_part, set_part, set_part]
  obtain ⟨i, hi⟩ := hc x
  simp only [Finset.mem_union]
  fin_cases i
  · exact Or.inl (Or.inl hi)
  · exact Or.inl (Or.inr hi)
  · exact Or.inr hi

include hd in
theorem three_apart {i j : Fin 3} (h : i ≠ j) : Disjoint ((Memref.whole b).view.slice (R i)).set ((Memref.whole b).view.slice (R j)).set := by
  rw [set_part, set_part]; exact hd i j h

include hd hc in
/-- A whole buffer, cut in three, -/
theorem cut_three : (iprop(∃ f : Buf (Elt F) ((c : Thread nD τ).loc b), ((c : Thread nD τ).loc b) ↦{fullShare} f) : sProp 𝕄)
    ⊢ iprop(somes (c : Thread nD τ) ((Memref.whole b).view.slice (R 0)) ∗ somes (c : Thread nD τ) ((Memref.whole b).view.slice (R 1))
      ∗ somes (c : Thread nD τ) ((Memref.whole b).view.slice (R 2))) :=
  somes_three (three_apart b R hd (by decide)) (Finset.disjoint_union_left.mpr ⟨three_apart b R hd (by decide), three_apart b R hd (by decide)⟩)
    (three_cover b R hc)

include hd hc in
/-- and put together again. -/
theorem join_three : iprop(somes (c : Thread nD τ) ((Memref.whole b).view.slice (R 0)) ∗ somes (c : Thread nD τ) ((Memref.whole b).view.slice (R 1))
      ∗ somes (c : Thread nD τ) ((Memref.whole b).view.slice (R 2)))
    ⊢ (iprop(∃ f : Buf (Elt F) ((c : Thread nD τ).loc b), ((c : Thread nD τ).loc b) ↦{fullShare} f) : sProp 𝕄) :=
  three_somes (three_apart b R hd (by decide)) (Finset.disjoint_union_left.mpr ⟨three_apart b R hd (by decide), three_apart b R hd (by decide)⟩)
    (three_cover b R hc)

end Three

/-! ## The four families of parts -/

theorem cxR_apart (i j : Fin 3) (h : i ≠ j) : Disjoint (cxR i).set (cxR j).set :=
  Rect.unit_disjoint (0 : Fin 3) (by
    show i.val + 1 ≤ j.val ∨ j.val + 1 ≤ i.val
    have := Fin.val_ne_of_ne h; omega)
theorem caR_apart (i j : Fin 3) (h : i ≠ j) : Disjoint (caR i).set (caR j).set :=
  Rect.unit_disjoint (0 : Fin 3) (by
    show i.val + 1 ≤ j.val ∨ j.val + 1 ≤ i.val
    have := Fin.val_ne_of_ne h; omega)
theorem xinR_apart (i j : Fin 3) (h : i ≠ j) : Disjoint (xinR i).set (xinR j).set :=
  Rect.unit_disjoint (0 : Fin 2) (by
    show 160 * i.val + 160 ≤ 160 * j.val ∨ 160 * j.val + 160 ≤ 160 * i.val
    have := Fin.val_ne_of_ne h; omega)
theorem ainR_apart (i j : Fin 3) (h : i ≠ j) : Disjoint (ainR i).set (ainR j).set :=
  Rect.unit_disjoint (0 : Fin 2) (by
    show 160 * i.val + 160 ≤ 160 * j.val ∨ 160 * j.val + 160 ≤ 160 * i.val
    have := Fin.val_ne_of_ne h; omega)

theorem cxR_cover (x : S3x160x512.Idx) : ∃ i, x ∈ (cxR i).set := by
  refine ⟨⟨(x 0).val, (x 0).isLt⟩, Rect.mem_set_unit.mpr fun a => ?_⟩
  have h1 : (x 1).val < 160 := (x 1).isLt
  have h2 : (x 2).val < 512 := (x 2).isLt
  fin_cases a
  · show (x 0).val ≤ (x 0).val ∧ (x 0).val < (x 0).val + 1; omega
  · show 0 ≤ (x 1).val ∧ (x 1).val < 0 + 160; omega
  · show 0 ≤ (x 2).val ∧ (x 2).val < 0 + 512; omega
theorem caR_cover (x : S3x160x1.Idx) : ∃ i, x ∈ (caR i).set := by
  refine ⟨⟨(x 0).val, (x 0).isLt⟩, Rect.mem_set_unit.mpr fun a => ?_⟩
  have h1 : (x 1).val < 160 := (x 1).isLt
  have h2 : (x 2).val < 1 := (x 2).isLt
  fin_cases a
  · show (x 0).val ≤ (x 0).val ∧ (x 0).val < (x 0).val + 1; omega
  · show 0 ≤ (x 1).val ∧ (x 1).val < 0 + 160; omega
  · show 0 ≤ (x 2).val ∧ (x 2).val < 0 + 1; omega
theorem xinR_cover (x : S480x512.Idx) : ∃ i, x ∈ (xinR i).set := by
  have h0 : (x 0).val < 480 := (x 0).isLt
  have h1 : (x 1).val < 512 := (x 1).isLt
  refine ⟨⟨(x 0).val / 160, by omega⟩, Rect.mem_set_unit.mpr fun a => ?_⟩
  fin_cases a
  · show 160 * ((x 0).val / 160) ≤ (x 0).val ∧ (x 0).val < 160 * ((x 0).val / 160) + 160; omega
  · show 0 ≤ (x 1).val ∧ (x 1).val < 0 + 512; omega
theorem ainR_cover (x : S480x1.Idx) : ∃ i, x ∈ (ainR i).set := by
  have h0 : (x 0).val < 480 := (x 0).isLt
  have h1 : (x 1).val < 1 := (x 1).isLt
  refine ⟨⟨(x 0).val / 160, by omega⟩, Rect.mem_set_unit.mpr fun a => ?_⟩
  fin_cases a
  · show 160 * ((x 0).val / 160) ≤ (x 0).val ∧ (x 0).val < 160 * ((x 0).val / 160) + 160; omega
  · show 0 ≤ (x 1).val ∧ (x 1).val < 0 + 1; omega

/-! ## The six buffers -/

/-- A device's scratch buffers other than the weights' copies, whole, at contents not chosen. -/
def shelf (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The parts of them that belong to the exchange with peer `i`: before the body, -/
def partsPre (c : Dev nD) (i : Fin 3) : sProp 𝕄 :=
  iprop(somes (c : Thread nD τ) (cxM.view.slice (cxR i)) ∗ somes (c : Thread nD τ) (caM.view.slice (caR i)) ∗ somes (c : Thread nD τ) (xin i).view
    ∗ somes (c : Thread nD τ) (ain i).view ∗ somes (c : Thread nD τ) (ans i).view ∗ somes (c : Thread nD τ) (back i).view)
/-- and after it. -/
def partsPost (c : Dev nD) (i : Fin 3) : sProp 𝕄 :=
  iprop(somes (c : Thread nD τ) (cx i).view ∗ somes (c : Thread nD τ) (ca i).view ∗ somes (c : Thread nD τ) (xin i).view
    ∗ somes (c : Thread nD τ) (ain i).view ∗ somes (c : Thread nD τ) (ans i).view ∗ somes (c : Thread nD τ) (backM.view.slice (cxR i)))

theorem cx_in (c : Dev nD) (i : Fin 3) : (somes (c : Thread nD τ) (cx i).view : sProp 𝕄) ⊢ somes (c : Thread nD τ) (cxM.view.slice (cxR i)) :=
  somes_unreshape _ _ _ squeezes_S1x160x512_S160x512.numel_eq
theorem ca_in (c : Dev nD) (i : Fin 3) : (somes (c : Thread nD τ) (ca i).view : sProp 𝕄) ⊢ somes (c : Thread nD τ) (caM.view.slice (caR i)) :=
  somes_unreshape _ _ _ squeezes_S1x160x1_S160x1.numel_eq
theorem back_out (c : Dev nD) (i : Fin 3) : (somes (c : Thread nD τ) (backM.view.slice (cxR i)) : sProp 𝕄) ⊢ somes (c : Thread nD τ) (back i).view :=
  somes_reshape _ _ _ squeezes_S1x160x512_S160x512.numel_eq

theorem shelf_cut (c : Dev nD) : (shelf (F := F) c) ⊢ iprop(partsPre (F := F) c 0 ∗ partsPre (F := F) c 1 ∗ partsPre (F := F) c 2) := by
  unfold shelf partsPre
  iintro ⟨H0, H1, H2, H3, H4, H5⟩
  ihave H0 := (cut_three c cc0_scratch0 cxR cxR_apart cxR_cover) $$ H0
  ihave H1 := (cut_three c cc0_scratch1 caR caR_apart caR_cover) $$ H1
  ihave H2 := (cut_three c cc0_scratch2 xinR xinR_apart xinR_cover) $$ H2
  ihave H3 := (cut_three c cc0_scratch3 ainR ainR_apart ainR_cover) $$ H3
  ihave H4 := (cut_three c cc0_scratch4 xinR xinR_apart xinR_cover) $$ H4
  ihave H5 := (cut_three c cc0_scratch5 cxR cxR_apart cxR_cover) $$ H5
  icases H0 with ⟨A0, B0, C0⟩
  icases H1 with ⟨A1, B1, C1⟩
  icases H2 with ⟨A2, B2, C2⟩
  icases H3 with ⟨A3, B3, C3⟩
  icases H4 with ⟨A4, B4, C4⟩
  icases H5 with ⟨A5, B5, C5⟩
  isplitl [A0 A1 A2 A3 A4 A5]
  · isplitl [A0]; · iexact A0
    isplitl [A1]; · iexact A1
    isplitl [A2]; · iexact A2
    isplitl [A3]; · iexact A3
    isplitl [A4]; · iexact A4
    iapply (back_out c 0) $$ A5
  isplitl [B0 B1 B2 B3 B4 B5]
  · isplitl [B0]; · iexact B0
    isplitl [B1]; · iexact B1
    isplitl [B2]; · iexact B2
    isplitl [B3]; · iexact B3
    isplitl [B4]; · iexact B4
    iapply (back_out c 1) $$ B5
  isplitl [C0]; · iexact C0
  isplitl [C1]; · iexact C1
  isplitl [C2]; · iexact C2
  isplitl [C3]; · iexact C3
  isplitl [C4]; · iexact C4
  iapply (back_out c 2) $$ C5

theorem shelf_join (c : Dev nD) : iprop(partsPost (F := F) c 0 ∗ partsPost (F := F) c 1 ∗ partsPost (F := F) c 2) ⊢ shelf (F := F) c := by
  unfold shelf partsPost
  iintro ⟨⟨A0, A1, A2, A3, A4, A5⟩, ⟨B0, B1, B2, B3, B4, B5⟩, ⟨C0, C1, C2, C3, C4, C5⟩⟩
  ihave A0 := (cx_in c 0) $$ A0
  ihave B0 := (cx_in c 1) $$ B0
  ihave C0 := (cx_in c 2) $$ C0
  ihave A1 := (ca_in c 0) $$ A1
  ihave B1 := (ca_in c 1) $$ B1
  ihave C1 := (ca_in c 2) $$ C1
  isplitl [A0 B0 C0]
  · iapply (join_three c cc0_scratch0 cxR cxR_apart cxR_cover)
    isplitl [A0]; · iexact A0
    isplitl [B0]; · iexact B0
    iexact C0
  isplitl [A1 B1 C1]
  · iapply (join_three c cc0_scratch1 caR caR_apart caR_cover)
    isplitl [A1]; · iexact A1
    isplitl [B1]; · iexact B1
    iexact C1
  isplitl [A2 B2 C2]
  · iapply (join_three c cc0_scratch2 xinR xinR_apart xinR_cover)
    isplitl [A2]; · iexact A2
    isplitl [B2]; · iexact B2
    iexact C2
  isplitl [A3 B3 C3]
  · iapply (join_three c cc0_scratch3 ainR ainR_apart ainR_cover)
    isplitl [A3]; · iexact A3
    isplitl [B3]; · iexact B3
    iexact C3
  isplitl [A4 B4 C4]
  · iapply (join_three c cc0_scratch4 xinR xinR_apart xinR_cover)
    isplitl [A4]; · iexact A4
    isplitl [B4]; · iexact B4
    iexact C4
  iapply (join_three c cc0_scratch5 cxR cxR_apart cxR_cover)
  isplitl [A5]; · iexact A5
  isplitl [B5]; · iexact B5
  iexact C5

end Cert.KernelIdeal.Moe

end
-- ==== Proof.Ghost.lean ====
/- What a device starts and ends the kernel with, besides its buffers: the semaphores opened for the exchange with each peer,
   and closed at zero. -/
module

public import proofs.«01_k».proof.Proof.Body
public import proofs.«01_k».proof.Proof.Parts

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD) (i : Fin 3)

/-! ## One exchange -/

/-- The duties device `c` discharges in its exchange with peer `i`. -/
def linkTok : sProp 𝕄 :=
  iprop(dutyTok ER (bar (peer c i)) 0 (slot c i)
    ∗ (dutyTok ER (dcell c 0 i) 0 0 ∗ dutyTok ER (dcell (peer c i) 1 (slot c i)) 0 0)
    ∗ (dutyTok ER (dcell c 2 i) 0 0 ∗ dutyTok ER (dcell (peer c i) 3 (slot c i)) 0 0)
    ∗ (dutyTok ER (dcell c 4 i) 0 0 ∗ dutyTok ER (dcell (peer c i) 5 (slot c i)) 0 0))
/-- What the peer owes it. -/
def linkCred : sProp 𝕄 :=
  iprop(cred (tallyAt (dcell c 1 i) () (amt 1)) ∗ cred (tallyAt (dcell c 3 i) () (amt 3)) ∗ cred (tallyAt (dcell c 5 i) () (amt 5)))
/-- Its six semaphores: the right to open them, -/
def linkDoor : sProp 𝕄 := bigSep Finset.univ fun a : Fin 6 => openTok ER (dcell c a i)
/-- their counters at zero, -/
def linkZero : sProp 𝕄 := bigSep Finset.univ fun a : Fin 6 => semVal (dcell c a i) 0
/-- opened, -/
def linkOpened : sProp 𝕄 := bigSep Finset.univ fun a : Fin 6 => iprop(atPos ER (dcell c a i) 0 ∅ 0 ∗ reached ER (dcell c a i) 0)
/-- and waited for. -/
def linkDone : sProp 𝕄 := bigSep Finset.univ fun a : Fin 6 => atPos ER (dcell c a i) 1 ∅ 0

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem cell_up (a : Fin 6) : iprop(sky D K ∗ openTok ER (dcell c a i) ∗ semVal (dcell c a i) 0)
    ⊢ (|={Set.univ}=> iprop(atPos ER (dcell c a i) 0 ∅ 0 ∗ reached ER (dcell c a i) 0) : sProp 𝕄) := by
  iintro ⟨#H, Ho, Hs⟩
  iapply (Rounds.cell_open ER (sched D) (g := dcell c a i) (Set.mem_univ (K (dcell c a i))))
  isplitr; · iapply (sky_inv D K c (some (a, i))); iexact H
  isplitl [Ho]; · iexact Ho
  iexact Hs

theorem cell_down (a : Fin 6) : iprop(sky D K ∗ atPos ER (dcell c a i) 1 ∅ 0) ⊢ (|={Set.univ}=> semVal (dcell c a i) 0 : sProp 𝕄) := by
  iintro ⟨#H, Ha⟩
  iapply (Rounds.cell_close ER (sched D) (g := dcell c a i) (Set.mem_univ (K (dcell c a i))) id (duties_later D _))
  isplitr; · iapply (sky_inv D K c (some (a, i))); iexact H
  iexact Ha

theorem bar_down : iprop(sky D K ∗ atPos ER (bar c) 1 ∅ 0) ⊢ (|={Set.univ}=> semVal (bar c) 0 : sProp 𝕄) := by
  iintro ⟨#H, Ha⟩
  iapply (Rounds.cell_close ER (sched D) (g := bar c) (Set.mem_univ (K (bar c))) id (duties_later D _))
  isplitr; · iapply (sky_inv D K c none); iexact H
  iexact Ha

theorem link_up : iprop(sky D K ∗ linkDoor (F := F) c i ∗ linkZero (F := F) c i) ⊢ (|={Set.univ}=> linkOpened c i : sProp 𝕄) := by
  unfold linkDoor linkZero linkOpened
  rw [six, six, six]
  iintro ⟨#H, ⟨O0, O1, O2, O3, O4, O5⟩, ⟨S0, S1, S2, S3, S4, S5⟩⟩
  imod (cell_up D K c i 0) $$ [O0 S0] with R0
  · isplitr; · iexact H
    isplitl [O0]; · iexact O0
    iexact S0
  imod (cell_up D K c i 1) $$ [O1 S1] with R1
  · isplitr; · iexact H
    isplitl [O1]; · iexact O1
    iexact S1
  imod (cell_up D K c i 2) $$ [O2 S2] with R2
  · isplitr; · iexact H
    isplitl [O2]; · iexact O2
    iexact S2
  imod (cell_up D K c i 3) $$ [O3 S3] with R3
  · isplitr; · iexact H
    isplitl [O3]; · iexact O3
    iexact S3
  imod (cell_up D K c i 4) $$ [O4 S4] with R4
  · isplitr; · iexact H
    isplitl [O4]; · iexact O4
    iexact S4
  imod (cell_up D K c i 5) $$ [O5 S5] with R5
  · isplitr; · iexact H
    isplitl [O5]; · iexact O5
    iexact S5
  imodintro
  isplitl [R0]; · iexact R0
  isplitl [R1]; · iexact R1
  isplitl [R2]; · iexact R2
  isplitl [R3]; · iexact R3
  isplitl [R4]; · iexact R4
  iexact R5

theorem link_down : iprop(sky D K ∗ linkDone (F := F) c i) ⊢ (|={Set.univ}=> linkZero c i : sProp 𝕄) := by
  unfold linkDone linkZero
  rw [six, six]
  iintro ⟨#H, ⟨S0, S1, S2, S3, S4, S5⟩⟩
  imod (cell_down D K c i 0) $$ [S0] with R0
  · isplitr; · iexact H
    iexact S0
  imod (cell_down D K c i 1) $$ [S1] with R1
  · isplitr; · iexact H
    iexact S1
  imod (cell_down D K c i 2) $$ [S2] with R2
  · isplitr; · iexact H
    iexact S2
  imod (cell_down D K c i 3) $$ [S3] with R3
  · isplitr; · iexact H
    iexact S3
  imod (cell_down D K c i 4) $$ [S4] with R4
  · isplitr; · iexact H
    iexact S4
  imod (cell_down D K c i 5) $$ [S5] with R5
  · isplitr; · iexact H
    iexact S5
  imodintro
  isplitl [R0]; · iexact R0
  isplitl [R1]; · iexact R1
  isplitl [R2]; · iexact R2
  isplitl [R3]; · iexact R3
  isplitl [R4]; · iexact R4
  iexact R5

/-- What the body asks for, and what it leaves. -/
theorem linkPre_of : iprop(linkTok (F := F) c i ∗ linkCred (F := F) c i ∗ linkOpened (F := F) c i ∗ partsPre (F := F) c i) ⊢ linkPre c i := by
  unfold linkTok linkCred linkOpened partsPre linkPre sigRes
  rw [six]
  iintro ⟨⟨Tb, ⟨T0, T1⟩, ⟨T2, T3⟩, T4, T5⟩, ⟨C1, C3, C5⟩,
    ⟨⟨A0, #R0⟩, ⟨A1, #R1⟩, ⟨A2, #R2⟩, ⟨A3, #R3⟩, ⟨A4, #R4⟩, A5, #R5⟩, P0, P1, P2, P3, P4, P5⟩
  isplitl [Tb P2 P3 P5]
  · isplitl [Tb]; · iexact Tb
    isplitl [P2]; · iexact P2
    isplitl [P3]; · iexact P3
    isplitl [P5]; · iexact P5
    isplitr; · iexact R1
    isplitr; · iexact R3
    iexact R5
  isplitl [T0 T1]
  · isplitl [T0]; · iexact T0
    isplitr; · iexact R0
    iexact T1
  isplitl [T2 T3]
  · isplitl [T2]; · iexact T2
    isplitr; · iexact R2
    iexact T3
  isplitl [T4 T5]
  · isplitl [T4]; · iexact T4
    isplitr; · iexact R4
    iexact T5
  isplitl [P0]; · iexact P0
  isplitl [P1]; · iexact P1
  isplitl [P4]; · iexact P4
  isplitl [C1]; · iexact C1
  isplitl [C3]; · iexact C3
  isplitl [C5]; · iexact C5
  isplitl [A0]; · iexact A0
  isplitl [A1]; · iexact A1
  isplitl [A2]; · iexact A2
  isplitl [A3]; · iexact A3
  isplitl [A4]; · iexact A4
  iexact A5

theorem linkPost_parts : linkPost (F := F) c i ⊢ iprop(partsPost (F := F) c i ∗ linkDone (F := F) c i) := by
  unfold linkPost partsPost linkDone
  rw [six]

/-! ## All of a device's exchanges -/

/-- What a device is given at launch, -/
def start : sProp 𝕄 :=
  iprop(cred (tallyAt (bar c) () 3) ∗ atPos ER (bar c) 0 ∅ 0
    ∗ (linkTok c 0 ∗ linkCred c 0 ∗ linkDoor c 0) ∗ (linkTok c 1 ∗ linkCred c 1 ∗ linkDoor c 1) ∗ (linkTok c 2 ∗ linkCred c 2 ∗ linkDoor c 2))
/-- the same with its semaphores opened, -/
def ready : sProp 𝕄 :=
  iprop(cred (tallyAt (bar c) () 3) ∗ atPos ER (bar c) 0 ∅ 0
    ∗ (linkTok c 0 ∗ linkCred c 0 ∗ linkOpened c 0) ∗ (linkTok c 1 ∗ linkCred c 1 ∗ linkOpened c 1) ∗ (linkTok c 2 ∗ linkCred c 2 ∗ linkOpened c 2))
/-- and its counters at zero. -/
def zeros : sProp 𝕄 := iprop(linkZero c 0 ∗ linkZero c 1 ∗ linkZero c 2)

theorem start_ready : iprop(sky D K ∗ start (F := F) c ∗ zeros (F := F) c) ⊢ (|={Set.univ}=> ready c : sProp 𝕄) := by
  unfold start ready zeros
  iintro ⟨#H, ⟨Hc, Ha, ⟨A1, A2, A3⟩, ⟨B1, B2, B3⟩, C1, C2, C3⟩, Z0, Z1, Z2⟩
  imod (link_up D K c 0) $$ [A3 Z0] with A3
  · isplitr; · iexact H
    isplitl [A3]; · iexact A3
    iexact Z0
  imod (link_up D K c 1) $$ [B3 Z1] with B3
  · isplitr; · iexact H
    isplitl [B3]; · iexact B3
    iexact Z1
  imod (link_up D K c 2) $$ [C3 Z2] with C3
  · isplitr; · iexact H
    isplitl [C3]; · iexact C3
    iexact Z2
  imodintro
  isplitl [Hc]; · iexact Hc
  isplitl [Ha]; · iexact Ha
  isplitl [A1 A2 A3]
  · isplitl [A1]; · iexact A1
    isplitl [A2]; · iexact A2
    iexact A3
  isplitl [B1 B2 B3]
  · isplitl [B1]; · iexact B1
    isplitl [B2]; · iexact B2
    iexact B3
  isplitl [C1]; · iexact C1
  isplitl [C2]; · iexact C2
  iexact C3

/-- Before the body: the opened semaphores and the cut buffers, peer by peer. -/
theorem ready_pre : iprop(ready (F := F) c ∗ shelf (F := F) c)
    ⊢ iprop(cred (tallyAt (bar c) () 3) ∗ atPos ER (bar c) 0 ∅ 0 ∗ linkPre (F := F) c 0 ∗ linkPre (F := F) c 1 ∗ linkPre (F := F) c 2) := by
  unfold ready
  iintro ⟨⟨Hc, Ha, ⟨A1, A2, A3⟩, ⟨B1, B2, B3⟩, C1, C2, C3⟩, Hs⟩
  ihave Hs := (shelf_cut (F := F) c) $$ Hs
  icases Hs with ⟨P0, P1, P2⟩
  isplitl [Hc]; · iexact Hc
  isplitl [Ha]; · iexact Ha
  isplitl [A1 A2 A3 P0]
  · iapply (linkPre_of (F := F) c 0)
    isplitl [A1]; · iexact A1
    isplitl [A2]; · iexact A2
    isplitl [A3]; · iexact A3
    iexact P0
  isplitl [B1 B2 B3 P1]
  · iapply (linkPre_of (F := F) c 1)
    isplitl [B1]; · iexact B1
    isplitl [B2]; · iexact B2
    isplitl [B3]; · iexact B3
    iexact P1
  iapply (linkPre_of (F := F) c 2)
  isplitl [C1]; · iexact C1
  isplitl [C2]; · iexact C2
  isplitl [C3]; · iexact C3
  iexact P2

/-- After the body: the buffers whole again, and every counter at zero. -/
theorem post_down : iprop(sky D K ∗ atPos ER (bar c) 1 ∅ 0 ∗ linkPost (F := F) c 0 ∗ linkPost (F := F) c 1 ∗ linkPost (F := F) c 2)
    ⊢ (|={Set.univ}=> iprop(semVal (bar c) 0 ∗ zeros (F := F) c ∗ shelf (F := F) c) : sProp 𝕄) := by
  iintro ⟨#H, Ha, L0, L1, L2⟩
  ihave L0 := (linkPost_parts (F := F) c 0) $$ L0
  ihave L1 := (linkPost_parts (F := F) c 1) $$ L1
  ihave L2 := (linkPost_parts (F := F) c 2) $$ L2
  icases L0 with ⟨P0, E0⟩
  icases L1 with ⟨P1, E1⟩
  icases L2 with ⟨P2, E2⟩
  imod (bar_down D K c) $$ [Ha] with Hb
  · isplitr; · iexact H
    iexact Ha
  imod (link_down D K c 0) $$ [E0] with E0
  · isplitr; · iexact H
    iexact E0
  imod (link_down D K c 1) $$ [E1] with E1
  · isplitr; · iexact H
    iexact E1
  imod (link_down D K c 2) $$ [E2] with E2
  · isplitr; · iexact H
    iexact E2
  imodintro
  isplitl [Hb]; · iexact Hb
  isplitl [E0 E1 E2]
  · unfold zeros
    isplitl [E0]; · iexact E0
    isplitl [E1]; · iexact E1
    iexact E2
  iapply (shelf_join (F := F) c)
  isplitl [P0]; · iexact P0
  isplitl [P1]; · iexact P1
  iexact P2

end Cert.KernelIdeal.Moe

end
-- ==== Proof.Deal.lean ====
/- What the launch makes and how it is dealt to the devices: every semaphore's record, the token of every duty to the device
   that discharges it, and to every device the credit of what the others owe it. -/
module

public import proofs.«01_k».proof.Proof.Ghost

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem cell_inj : Function.Injective fun p : Dev nD × Kind => cell p.1 p.2 := fun p q h =>
  Prod.ext (congrArg (fun g : GSem nD τ sig => g.1.1) h) (osem_inj (congrArg Prod.snd h))

theorem own_ne_bar (a : Fin 6) (i : Fin 3) : osem (some (a, i)) ≠ osem none := fun h => absurd (osem_inj h) (Option.some_ne_none _)

def barEmb : Dev nD ↪ GSem nD τ sig := ⟨fun c => bar c, fun _ _ h => congrArg (fun g : GSem nD τ sig => g.1.1) h⟩
def dmaEmb : (Dev nD × Fin 3) × Fin 6 ↪ GSem nD τ sig :=
  ⟨fun q => dcell q.1.1 q.2 q.1.2, fun p q h => by
    have e := cell_inj (a₁ := (p.1.1, some (p.2, p.1.2))) (a₂ := (q.1.1, some (q.2, q.1.2))) h
    simp only [Prod.mk.injEq, Option.some.injEq] at e
    exact Prod.ext (Prod.ext e.1 e.2.2) e.2.1⟩
abbrev barCells : Finset (GSem nD τ sig) := Finset.univ.map barEmb
abbrev dmaCells : Finset (GSem nD τ sig) := Finset.univ.map dmaEmb

theorem disjoint_cells : Disjoint barCells dmaCells := by
  rw [Finset.disjoint_left]
  rintro g h₁ h₂
  obtain ⟨c, -, rfl⟩ := Finset.mem_map.mp h₁
  obtain ⟨q, -, h⟩ := Finset.mem_map.mp h₂
  exact own_ne_bar q.2 q.1.2 (congrArg Prod.snd h)

/-- One token for each of a device's three barrier duties, and one for each transfer semaphore. -/
def tokOf : (Dev nD × Fin 3) × Option (Fin 6) → GSem nD τ sig × ℕ × Fin 3
  | (p, none) => (bar p.1, 0, p.2)
  | (p, some a) => (dcell p.1 a p.2, 0, 0)
theorem tokOf_inj : Function.Injective tokOf := by
  rintro ⟨⟨c, i⟩, a⟩ ⟨⟨d, j⟩, b⟩ h
  cases a with
  | none =>
    cases b with
    | none =>
      have h1 : c = d := congrArg (fun t : GSem nD τ sig × ℕ × Fin 3 => t.1.1.1) h
      have h2 : i = j := congrArg (fun t : GSem nD τ sig × ℕ × Fin 3 => t.2.2) h
      subst h1; subst h2; rfl
    | some b =>
      exact absurd (congrArg (fun t : GSem nD τ sig × ℕ × Fin 3 => t.1.2) h).symm (own_ne_bar b j)
  | some a =>
    cases b with
    | none =>
      exact absurd (congrArg (fun t : GSem nD τ sig × ℕ × Fin 3 => t.1.2) h) (own_ne_bar a i)
    | some b =>
      have e := cell_inj (a₁ := (c, some (a, i))) (a₂ := (d, some (b, j))) (congrArg Prod.fst h)
      simp only [Prod.mk.injEq, Option.some.injEq] at e
      obtain ⟨rfl, rfl, rfl⟩ := e
      rfl
def talkToks : Finset (GSem nD τ sig × ℕ × Fin 3) := Finset.univ.map ⟨tokOf, tokOf_inj⟩

theorem unpair {I : Type} [Fintype I] {Φ Ψ : I → sProp (MT nD τ sig Unit (Elt F) ℕ UU ℕ)} :
    bigSep Finset.univ (fun p => iprop(Φ p ∗ Ψ p)) ⊢ iprop(bigSep Finset.univ Φ ∗ bigSep Finset.univ Ψ) := by
  rw [bigSep_sep']
theorem pair {I : Type} [Fintype I] {Φ Ψ : I → sProp (MT nD τ sig Unit (Elt F) ℕ UU ℕ)} :
    iprop(bigSep Finset.univ Φ ∗ bigSep Finset.univ Ψ) ⊢ bigSep Finset.univ (fun p => iprop(Φ p ∗ Ψ p)) := by
  rw [bigSep_sep']

theorem seven (Φ : Option (Fin 6) → sProp 𝕄) :
    bigSep Finset.univ Φ = iprop(Φ none ∗ Φ (some 0) ∗ Φ (some 1) ∗ Φ (some 2) ∗ Φ (some 3) ∗ Φ (some 4) ∗ Φ (some 5)) :=
  bigSep_univ_eq_bigSepL [none, some 0, some 1, some 2, some 3, some 4, some 5] (by decide) (by decide) Φ

/-- A family over (device, peer number), read from the peers' side. -/
theorem around (Φ : Dev nD → Fin 3 → sProp (MT nD τ sig Unit (Elt F) ℕ UU ℕ)) :
    (bigSep Finset.univ fun p : Dev nD × Fin 3 => Φ p.1 p.2) ⊢ bigSep Finset.univ fun p : Dev nD × Fin 3 => Φ (peer p.1 p.2) (slot p.1 p.2) :=
  Entails.of_eq (bigSep_univ_equiv swap fun p : Dev nD × Fin 3 => Φ p.1 p.2)

/-- Every token goes to the device that discharges its duty. -/
theorem toks_dealt : bigSep talkToks (fun x => (dutyTok ER x.1 x.2.1 x.2.2 : sProp 𝕄))
    ⊢ bigSep Finset.univ fun p : Dev nD × Fin 3 => (linkTok p.1 p.2 : sProp 𝕄) := by
  have e : bigSep talkToks (fun x => (dutyTok ER x.1 x.2.1 x.2.2 : sProp 𝕄))
      = bigSep Finset.univ fun p : Dev nD × Fin 3 => iprop(dutyTok ER (bar p.1) 0 p.2 ∗ dutyTok ER (dcell p.1 0 p.2) 0 0
        ∗ dutyTok ER (dcell p.1 1 p.2) 0 0 ∗ dutyTok ER (dcell p.1 2 p.2) 0 0 ∗ dutyTok ER (dcell p.1 3 p.2) 0 0
        ∗ dutyTok ER (dcell p.1 4 p.2) 0 0 ∗ dutyTok ER (dcell p.1 5 p.2) 0 0) := by
    unfold talkToks
    rw [bigSep_map, bigSep_univ_prod]
    exact bigSep_congr fun p _ => seven fun a => (dutyTok ER (tokOf (p, a)).1 (tokOf (p, a)).2.1 (tokOf (p, a)).2.2 : sProp 𝕄)
  rw [e]
  unfold linkTok
  iintro H
  ihave H := unpair $$ H; icases H with ⟨Hb, H⟩
  ihave H := unpair $$ H; icases H with ⟨H0, H⟩
  ihave H := unpair $$ H; icases H with ⟨H1, H⟩
  ihave H := unpair $$ H; icases H with ⟨H2, H⟩
  ihave H := unpair $$ H; icases H with ⟨H3, H⟩
  ihave H := unpair $$ H; icases H with ⟨H4, H5⟩
  iapply pair
  isplitl [Hb]; · iapply (around fun d j => dutyTok ER (bar d) 0 j) $$ Hb
  iapply pair
  isplitl [H0 H1]
  · iapply pair
    isplitl [H0]; · iexact H0
    iapply (around fun d j => dutyTok ER (dcell d 1 j) 0 0) $$ H1
  iapply pair
  isplitl [H2 H3]
  · iapply pair
    isplitl [H2]; · iexact H2
    iapply (around fun d j => dutyTok ER (dcell d 3 j) 0 0) $$ H3
  iapply pair
  isplitl [H4]; · iexact H4
  iapply (around fun d j => dutyTok ER (dcell d 5 j) 0 0) $$ H5

/-! ## The credit -/

/-- What a device owes, peer by peer. -/
theorem owe_all (d : Dev nD) (g : GSem nD τ sig) : owe d 12 g ()
    = ∑ i : Fin 3, ((tallyAt (bar (peer d i)) () 1 : CellTallies nD τ sig Unit) g ()
      + (tallyAt (dcell (peer d i) 1 (slot d i)) () NX : CellTallies nD τ sig Unit) g ()
      + (tallyAt (dcell (peer d i) 3 (slot d i)) () NA : CellTallies nD τ sig Unit) g ()
      + (tallyAt (dcell (peer d i) 5 (slot d i)) () NX : CellTallies nD τ sig Unit) g ()) := by
  have h0 : owe d 0 g () = 0 := rfl
  have h (k : ℕ) : owe d (k + 1) g () = owe d k g () + (tallyAt (dueCell d k) () (dueAmt k) : CellTallies nD τ sig Unit) g () := rfl
  rw [h 11, h 10, h 9, h 8, h 7, h 6, h 5, h 4, h 3, h 2, h 1, h 0, h0, Fin.sum_univ_three]
  simp only [dueCell, dueAmt]
  omega

/-- A device's share of a payment to the cell `cell d k'`. -/
theorem tally_cell (c d : Dev nD) (k k' : Kind) (n : ℕ) :
    (tallyAt (cell d k') () n : CellTallies nD τ sig Unit) (cell c k) () = if c = d then (if k = k' then n else 0) else 0 := by
  rw [tallyAt_apply]
  by_cases h : c = d
  · by_cases h' : k = k'
    · subst h; subst h'; simp
    · rw [if_pos h, if_neg h', if_neg]
      exact fun e => h' (congrArg Prod.snd (cell_inj (a₁ := (c, k)) (a₂ := (d, k')) e.1))
  · rw [if_neg h, if_neg]
    exact fun e => h (congrArg Prod.fst (cell_inj (a₁ := (c, k)) (a₂ := (d, k')) e.1))

/-- What all devices together owe one cell. -/
theorem owed_cell (c : Dev nD) (k : Kind) : ∑ d : Dev nD, owe d 12 (cell c k) ()
    = ∑ i : Fin 3, ((if k = none then 1 else 0) + (if k = some (1, i) then NX else 0) + (if k = some (3, i) then NA else 0)
      + (if k = some (5, i) then NX else 0)) := by
  rw [Finset.sum_congr rfl fun d _ => owe_all d (cell c k),
    ← Fintype.sum_prod_type (f := fun p : Dev nD × Fin 3 => (tallyAt (bar (peer p.1 p.2)) () 1 : CellTallies nD τ sig Unit) (cell c k) ()
      + (tallyAt (dcell (peer p.1 p.2) 1 (slot p.1 p.2)) () NX : CellTallies nD τ sig Unit) (cell c k) ()
      + (tallyAt (dcell (peer p.1 p.2) 3 (slot p.1 p.2)) () NA : CellTallies nD τ sig Unit) (cell c k) ()
      + (tallyAt (dcell (peer p.1 p.2) 5 (slot p.1 p.2)) () NX : CellTallies nD τ sig Unit) (cell c k) ())]
  refine (Equiv.sum_comp swap fun p : Dev nD × Fin 3 => (tallyAt (bar p.1) () 1 : CellTallies nD τ sig Unit) (cell c k) ()
      + (tallyAt (dcell p.1 1 p.2) () NX : CellTallies nD τ sig Unit) (cell c k) ()
      + (tallyAt (dcell p.1 3 p.2) () NA : CellTallies nD τ sig Unit) (cell c k) ()
      + (tallyAt (dcell p.1 5 p.2) () NX : CellTallies nD τ sig Unit) (cell c k) ()).trans ?_
  rw [Fintype.sum_prod_type, Finset.sum_comm]
  refine Finset.sum_congr rfl fun i _ => ?_
  rw [Finset.sum_congr rfl fun d _ => (congrArg₂ (· + ·) (congrArg₂ (· + ·) (congrArg₂ (· + ·) (tally_cell c d k none 1)
    (tally_cell c d k (some (1, i)) NX)) (tally_cell c d k (some (3, i)) NA)) (tally_cell c d k (some (5, i)) NX))]
  rw [Finset.sum_add_distrib, Finset.sum_add_distrib, Finset.sum_add_distrib]
  simp only [Finset.sum_ite_eq, Finset.mem_univ, if_true]

/-- The peers' payments one cell awaits: three units on a barrier cell, one transfer on each landing. -/
def await : Kind → ℕ
  | none => 3
  | some p => if p.1 = 1 ∨ p.1 = 3 ∨ p.1 = 5 then amt p.1 else 0
theorem owed_await (c : Dev nD) (k : Kind) : ∑ d : Dev nD, owe d 12 (cell c k) () = await k := by
  rw [owed_cell]
  have hx : amt 1 = NX := rfl
  have ha : amt 3 = NA := rfl
  have hy : amt 5 = NX := rfl
  match k with
  | none => simp [await]
  | some (a, j) =>
    fin_cases a <;> fin_cases j <;> simp [await, Fin.sum_univ_three, hx, ha, hy]

theorem launch_cell (c : Dev nD) (k : Kind) :
    tallyOn (cell c k) (launchCredit (Pipeline.owing fun d => owe d 12) 0 (cell c k)) = (tallyAt (cell c k) () (await k) : CellTallies nD τ sig Unit) := by
  unfold tallyAt; refine congrArg _ (Finsupp.ext fun u => ?_); cases u
  rw [Pipeline.launchCredit_owing, Finsupp.single_eq_same, owed_await]

def ownEmb : Fin 3 × Fin 6 ↪ SemLoc sig :=
  ⟨fun q => .dma (dsem q.2 q.1), fun p q h => by
    have e := osem_inj (a₁ := some (p.2, p.1)) (a₂ := some (q.2, q.1)) h
    simp only [Option.some.injEq, Prod.mk.injEq] at e
    exact Prod.ext e.2 e.1⟩

theorem cred_link (c : Dev nD) (i : Fin 3) :
    (bigSep Finset.univ fun a : Fin 6 => (cred (tallyOn (dcell c a i) (launchCredit (Pipeline.owing fun d => owe d 12) 0 (dcell c a i))) : sProp 𝕄))
      ⊢ linkCred c i := by
  rw [six]
  unfold linkCred
  have e (a : Fin 6) := congrArg (fun t => (cred t : sProp 𝕄)) (launch_cell c (some (a, i)))
  iintro ⟨-, H1, -, H3, -, H5⟩
  isplitl [H1]; · iapply (Entails.of_eq (e 1)) $$ H1
  isplitl [H3]; · iapply (Entails.of_eq (e 3)) $$ H3
  iapply (Entails.of_eq (e 5)) $$ H5

theorem creds (c : Dev nD) : (Pipeline.launchCred (fun d => owe d 12) c : sProp 𝕄)
    ⊢ iprop(cred (tallyAt (bar c) () 3) ∗ bigSep Finset.univ fun i => linkCred c i) := by
  unfold Pipeline.launchCred
  rw [bigSep_univ_at _ (SemLoc.reg barS)]
  refine BIClass.sep_mono (Entails.of_eq (congrArg cred (launch_cell c none))) ?_
  have hs : Finset.univ.map ownEmb ⊆ Finset.univ.erase (SemLoc.reg barS) := fun s hs => by
    obtain ⟨q, -, rfl⟩ := Finset.mem_map.mp hs
    exact Finset.mem_erase.mpr ⟨own_ne_bar q.2 q.1, Finset.mem_univ _⟩
  refine (BI.bigSep_subset hs).trans ?_
  rw [bigSep_map, bigSep_univ_prod]
  exact bigSep_mono fun i _ => cred_link c i

end Cert.KernelIdeal.Moe

end
-- ==== Proof.Region.lean ====
/- The pallas_call as one step of a device's program: what it holds before and after, and that the kernel's body does it. -/
module

public import proofs.«01_k».proof.Proof.Ghost
public import Idealize.ShloMosaic.Lib.Pipeline.RegionTalk
public import Idealize.ShloMosaic.Lib.Pipeline.FrameTail
public import Idealize.ShloMosaic.Lib.Pipeline.Value

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-- What every device finds in the windows' blocks. -/
def D : Data F where
  x c := iblk m c 0 t0_0
  a1 c := iblk m c 1 t0_0
  a2 c := iblk m c 2 t0_0
  w1 c := iblk m c 3 t0_0
  w2 c := iblk m c 4 t0_0

/-- The copies of the weights, at contents not chosen. -/
def copies (c : Dev nD) : sProp 𝕄 :=
  iprop((∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

def before0 (c : Dev nD) : sProp 𝕄 :=
  iprop((∃ K, sky (D m) K ∗ ready c) ∗ shelf c ∗ copies c ∗ ∃ r, prngReg c r)
def after0 (c : Dev nD) : sProp 𝕄 :=
  iprop(semVal (bar c) 0 ∗ zeros c ∗ shelf c ∗ copies c ∗ ∃ r, prngReg c r)

/-- The pallas_call's windows: the inputs stay, the output becomes the result. -/
def dat0 (c : Dev nD) : Dat τ (Elt F) Unit ℕ UU ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun _ => result (D m) c
    | ⟨_ + 6, h⟩ => absurd h (Nat.not_lt.2 (Nat.le_add_left _ _))
  Φ t := if t.val = 0 then before0 m c else after0 c
  q _ := fullShare
  owed t := if t.val = 0 then owe c 12 else 0

theorem owed_at (c : Dev nD) (t : Fin (cfg0.N + 1)) : (dat0 m c).owed t = if t.val = 0 then owe c 12 else 0 := rfl
theorem owed_first (c : Dev nD) : (dat0 m c).owed t0_0.castSucc = owe c 12 := by rw [owed_at]; exact if_pos rfl
theorem owed_start (c : Dev nD) : (dat0 m c).owed 0 = owe c 12 := by rw [owed_at]; exact if_pos rfl
theorem owed_last (c : Dev nD) : (dat0 m c).owed (Fin.last _) = 0 := by
  rw [owed_at, Fin.val_last, if_neg (by rw [show cfg0.N = 1 from N_0]; decide)]
theorem owed_succ (c : Dev nD) : (dat0 m c).owed t0_0.succ = 0 := by rw [owed_at]; exact if_neg (Nat.succ_ne_zero _)

theorem inv_at (c : Dev nD) (t : Fin (cfg0.N + 1)) : (dat0 m c).Φ t = if t.val = 0 then before0 m c else after0 c := rfl
theorem inv_first (c : Dev nD) : (dat0 m c).Φ t0_0.castSucc = before0 m c := by rw [inv_at]; exact if_pos rfl
theorem inv_start (c : Dev nD) : (dat0 m c).Φ 0 = before0 m c := by rw [inv_at]; exact if_pos rfl
theorem inv_succ (c : Dev nD) : (dat0 m c).Φ t0_0.succ = after0 c := by rw [inv_at]; exact if_neg (Nat.succ_ne_zero _)
theorem inv_last (c : Dev nD) : (dat0 m c).Φ (Fin.last _) = after0 c := by
  rw [inv_at, Fin.val_last, if_neg (by rw [show cfg0.N = 1 from N_0]; decide)]

theorem owesAt_intro (c : Dev nD) (t : Fin (cfg0.N + 1)) (n : ℕ) (h : (dat0 m c).owed t = owe c n) :
    owing (F := F) c n ⊢ ((dat0 m c).owesAt () t : sProp 𝕄) := by
  unfold Dat.owesAt Pipeline.owesWithin Dat.bound owing
  rw [h, show (dat0 m c).recorded t = Set.univ from rfl]
  iintro ⟨%W, HO⟩; iexists W; isplitr; · ipureintro; exact fun _ _ => Or.inl trivial
  iexact HO
theorem owesAt_elim (c : Dev nD) (t : Fin (cfg0.N + 1)) (n : ℕ) (h : (dat0 m c).owed t = owe c n) :
    ((dat0 m c).owesAt () t : sProp 𝕄) ⊢ owing (F := F) c n := by
  unfold Dat.owesAt Pipeline.owesWithin owing; rw [h]
  iintro ⟨%W, -, HO⟩; iexists W; iexact HO

/-- An input window's staging buffer holds the window's block. -/
theorem before_0 (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun _ => rfl) t d).trans rfl
theorem before_2 (c : Dev nD) (t : Fin cfg0.N) (d) : (dat0 m c).before 2 t d = iblk m c 2 t :=
  ((dat0 m c).before_in_eq_fetched 2 rfl (fun _ => rfl) (fun _ _ _ => rfl) (fun _ => rfl) t d).trans rfl
theorem before_3 (c : Dev nD) (t : Fin cfg0.N) (d) : (dat0 m c).before 3 t d = iblk m c 3 t :=
  ((dat0 m c).before_in_eq_fetched 3 rfl (fun _ => rfl) (fun _ _ _ => rfl) (fun _ => rfl) t d).trans rfl
theorem before_4 (c : Dev nD) (t : Fin cfg0.N) (d) : (dat0 m c).before 4 t d = iblk m c 4 t :=
  ((dat0 m c).before_in_eq_fetched 4 rfl (fun _ => rfl) (fun _ _ _ => rfl) (fun _ => rfl) t d).trans rfl

/-- So the body finds each device's inputs there. -/
theorem in_0 (c : Dev nD) (d) : (holds (c : Thread nD τ) (st0_0 t0_0).view ((dat0 m c).before 0 t0_0 d) : sProp 𝕄)
    ⊢ holds (c : Thread nD τ) (st0_0 t0_0).view ((D m).x c) := Entails.of_eq (congrArg (holds (c : Thread nD τ) (st0_0 t0_0).view) (before_0 m c t0_0 d))
theorem in_1 (c : Dev nD) (d) : (holds (c : Thread nD τ) (st0_1 t0_0).view ((dat0 m c).before 1 t0_0 d) : sProp 𝕄)
    ⊢ holds (c : Thread nD τ) (st0_1 t0_0).view ((D m).a1 c) := Entails.of_eq (congrArg (holds (c : Thread nD τ) (st0_1 t0_0).view) (before_1 m c t0_0 d))
theorem in_2 (c : Dev nD) (d) : (holds (c : Thread nD τ) (st0_2 t0_0).view ((dat0 m c).before 2 t0_0 d) : sProp 𝕄)
    ⊢ holds (c : Thread nD τ) (st0_2 t0_0).view ((D m).a2 c) := Entails.of_eq (congrArg (holds (c : Thread nD τ) (st0_2 t0_0).view) (before_2 m c t0_0 d))
theorem in_3 (c : Dev nD) (d) : (holds (c : Thread nD τ) (st0_3 t0_0).view ((dat0 m c).before 3 t0_0 d) : sProp 𝕄)
    ⊢ holds (c : Thread nD τ) (st0_3 t0_0).view ((D m).w1 c) := Entails.of_eq (congrArg (holds (c : Thread nD τ) (st0_3 t0_0).view) (before_3 m c t0_0 d))
theorem in_4 (c : Dev nD) (d) : (holds (c : Thread nD τ) (st0_4 t0_0).view ((dat0 m c).before 4 t0_0 d) : sProp 𝕄)
    ⊢ holds (c : Thread nD τ) (st0_4 t0_0).view ((D m).w2 c) := Entails.of_eq (congrArg (holds (c : Thread nD τ) (st0_4 t0_0).view) (before_4 m c t0_0 d))

/-- The body run, from what the launch gives to what the pallas_call gives back. -/
theorem body_all (c : Dev nD) (Kt : PUnit → sProp (MT nD τ sig Unit (Elt F) ℕ UU ℕ)) :
    iprop(before0 m c ∗ owing (F := F) c 12
      ∗ holds (c : Thread nD τ) (st0_0 t0_0).view ((D m).x c) ∗ holds (c : Thread nD τ) (st0_1 t0_0).view ((D m).a1 c)
      ∗ holds (c : Thread nD τ) (st0_2 t0_0).view ((D m).a2 c) ∗ holds (c : Thread nD τ) (st0_3 t0_0).view ((D m).w1 c)
      ∗ holds (c : Thread nD τ) (st0_4 t0_0).view ((D m).w2 c) ∗ somes (c : Thread nD τ) (st0_5 t0_0).view)
    ⊢ ((after0 (F := F) c ∗ owing (F := F) c 0
      ∗ holds (c : Thread nD τ) (st0_0 t0_0).view ((D m).x c) ∗ holds (c : Thread nD τ) (st0_1 t0_0).view ((D m).a1 c)
      ∗ holds (c : Thread nD τ) (st0_2 t0_0).view ((D m).a2 c) ∗ holds (c : Thread nD τ) (st0_3 t0_0).view ((D m).w1 c)
      ∗ holds (c : Thread nD τ) (st0_4 t0_0).view ((D m).w2 c) ∗ holds (c : Thread nD τ) (st0_5 t0_0).view (result (D m) c)) -∗ Kt ⟨⟩)
      -∗ wp frame (wpE defs₀ 𝒱₀ (c : Thread nD τ) none) Set.univ (bodyAt0 t0_0) Kt := by
  unfold before0 copies
  rw [← somes_whole, ← somes_whole]
  iintro ⟨⟨⟨%K, #H, Hr⟩, Hs, ⟨Hw1, Hw2⟩, Hp⟩, HO, H0, H1, H2, H3, H4, H5⟩ Hk
  ihave Hpre := (ready_pre (F := F) c) $$ [Hr Hs]
  · isplitl [Hr]; · iexact Hr
    iexact Hs
  icases Hpre with ⟨Hc, Ha, L0, L1, L2⟩
  iapply wp_fupd
  iapply (body_run (D m) K c _ _ _ _ _ _ _ _ _ _ _ _) $$ [Hc Ha L0 L1 L2 HO H0 H1 H2 H3 H4 H5 Hw1 Hw2]
  · isplitr; · iexact H
    isplitl [HO]; · iexact HO
    isplitl [Hc]; · iexact Hc
    isplitl [Ha]; · iexact Ha
    isplitl [L0]; · iexact L0
    isplitl [L1]; · iexact L1
    isplitl [L2]; · iexact L2
    isplitl [H0]; · iexact H0
    isplitl [H1]; · iexact H1
    isplitl [H2]; · iexact H2
    isplitl [H3]; · iexact H3
    isplitl [H4]; · iexact H4
    isplitl [H5]; · iexact H5
    isplitl [Hw1]; · iexact Hw1
    iexact Hw2
  iintro ⟨HO, Ha, L0, L1, L2, H0, H1, H2, H3, H4, H5, Hw1, Hw2⟩
  imod (post_down (D m) K c) $$ [Ha L0 L1 L2] with ⟨Hb, Hz, Hs⟩
  · isplitr; · iexact H
    isplitl [Ha]; · iexact Ha
    isplitl [L0]; · iexact L0
    isplitl [L1]; · iexact L1
    iexact L2
  imodintro
  iapply Hk
  unfold after0 copies
  rw [← somes_whole, ← somes_whole]
  isplitl [Hb Hz Hs Hp Hw1 Hw2]
  · isplitl [Hb]; · iexact Hb
    isplitl [Hz]; · iexact Hz
    isplitl [Hs]; · iexact Hs
    isplitl [Hw1 Hw2]
    · isplitl [Hw1]; · iexact Hw1
      iexact Hw2
    iexact Hp
  isplitl [HO]; · iexact HO
  isplitl [H0]; · iexact H0
  isplitl [H1]; · iexact H1
  isplitl [H2]; · iexact H2
  isplitl [H3]; · iexact H3
  isplitl [H4]; · iexact H4
  iexact H5

/-- The kernel's body does what the pallas_call asks of it. -/
theorem body0 (c : Dev nD) : BodyObligation (dat0 (F := F) m c) defs₀ 𝒱₀ () Set.univ := fun t => by
  obtain rfl := fin_N0 t
  rw [bigSep_W0, bigSep_W0, inv_first, inv_succ]
  show iprop(before0 m c ∗ (dat0 m c).owesAt () t0_0.castSucc
      ∗ (∃ d, holds (c : Thread nD τ) (st0_0 t0_0).view ((dat0 m c).before 0 t0_0 d))
       ∗ (∃ d, holds (c : Thread nD τ) (st0_1 t0_0).view ((dat0 m c).before 1 t0_0 d))
       ∗ (∃ d, holds (c : Thread nD τ) (st0_2 t0_0).view ((dat0 m c).before 2 t0_0 d))
       ∗ (∃ d, holds (c : Thread nD τ) (st0_3 t0_0).view ((dat0 m c).before 3 t0_0 d))
       ∗ (∃ d, holds (c : Thread nD τ) (st0_4 t0_0).view ((dat0 m c).before 4 t0_0 d))
       ∗ (∃ d, holds (c : Thread nD τ) (st0_5 t0_0).view ((dat0 m c).before 5 t0_0 d)))
    ⊢ wp frame (wpE defs₀ 𝒱₀ (c : Thread nD τ) none) Set.univ (bodyAt0 t0_0) fun _ =>
      iprop(after0 c ∗ (dat0 m c).owesAt () t0_0.succ
        ∗ holds (c : Thread nD τ) (st0_0 t0_0).view ((D m).x c)
         ∗ holds (c : Thread nD τ) (st0_1 t0_0).view ((D m).a1 c)
         ∗ holds (c : Thread nD τ) (st0_2 t0_0).view ((D m).a2 c)
         ∗ holds (c : Thread nD τ) (st0_3 t0_0).view ((D m).w1 c)
         ∗ holds (c : Thread nD τ) (st0_4 t0_0).view ((D m).w2 c)
        ∗ holds (c : Thread nD τ) (st0_5 t0_0).view (result (D m) c))
  iintro ⟨HB, HO, ⟨%d0, H0⟩, ⟨%d1, H1⟩, ⟨%d2, H2⟩, ⟨%d3, H3⟩, ⟨%d4, H4⟩, ⟨%d5, H5⟩⟩
  ihave HO := (owesAt_elim m c _ 12 (owed_first m c)) $$ HO
  iapply (body_all m c _) $$ [HB HO H0 H1 H2 H3 H4 H5]
  · isplitl [HB]; · iexact HB
    isplitl [HO]; · iexact HO
    isplitl [H0]; · iapply (in_0 m c d0) $$ H0
    isplitl [H1]; · iapply (in_1 m c d1) $$ H1
    isplitl [H2]; · iapply (in_2 m c d2) $$ H2
    isplitl [H3]; · iapply (in_3 m c d3) $$ H3
    isplitl [H4]; · iapply (in_4 m c d4) $$ H4
    iapply (holds_somes _ _ _) $$ H5
  iintro ⟨HB, HO, H0, H1, H2, H3, H4, H5⟩
  isplitl [HB]; · iexact HB
  isplitl [HO]; · iapply (owesAt_intro m c t0_0.succ 0 (owed_succ m c)) $$ HO
  isplitl [H0]; · iexact H0
  isplitl [H1]; · iexact H1
  isplitl [H2]; · iexact H2
  isplitl [H3]; · iexact H3
  isplitl [H4]; · iexact H4
  iexact H5

end Cert.KernelIdeal.Moe

end
-- ==== Proof.Run.lean ====
/- The whole program on every device: what is held between its steps, and the run from launch to end. -/
module

public import proofs.«01_k».proof.Proof.Deal
public import proofs.«01_k».proof.Proof.Region
public import Idealize.ShloMosaic.Lib.Pipeline.RegionArraysS

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the kernel -/

abbrev bufs : Finset (DevRef τ sig) := Pipeline.ucRefs τ sig
abbrev arrs : Finset (DevRef τ sig) := Pipeline.arrRefs (τ := τ) spec0
theorem arrs_sub : arrs ⊆ bufs := Pipeline.arrRefs_sub_ucRefs spec0 (by decide)

theorem unscopedBufs_held (c : Dev nD) (W : Valuation τ sig (Elt F)) :
    (unscopedBufs c (fun b => W b) : sProp 𝕄) = StableHlo.held (c : Thread nD τ) bufs W := by
  unfold unscopedBufs StableHlo.held bufs Pipeline.ucRefs StableHlo.tcRefs
  rw [Finset.filter_map, BI.bigSep_map]
  rfl

/-- At launch, when the pallas_call begins, and when it has ended. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Pipeline.afterRegion (dat0 m c) (V₁ m c)

/-! ## The pallas_call's record -/

abbrev ksem : Fin 3 × Fin 6 → SemLoc sig := fun q => .dma (dsem q.2 q.1)

theorem ksem_facts : Pipeline.OwnSemFacts spec0 ksem := by decide

theorem ownSems_eq (c : Dev nD) : (Pipeline.ownSems0 ksem c : sProp 𝕄) = zeros c := by
  unfold Pipeline.ownSems0 zeros
  rw [bigSep_univ_prod, Ring.bigSep_fin3]
  rfl

theorem rest_eq (c : Dev nD) : (Pipeline.scopedRest (Ix := Unit) (Name := ℕ) (U := UU) (Lvl := ℕ) (Val := Elt F) spec0 c : sProp 𝕄)
    ⊣⊢ iprop(shelf c ∗ copies c) := by
  rw [scopedRest0_eq]
  unfold shelf copies
  constructor
  · iintro ⟨H0, H1, H2, H3, H4, H5, H6, H7⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iexact H7
  · iintro ⟨⟨H0, H1, H2, H3, H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- What the launch hands the pallas_call, and what enters it once the semaphores are opened. -/
def handed (c : Dev nD) : sProp 𝕄 := iprop(∃ K, sky (D m) K ∗ start c)
def opened (c : Dev nD) : sProp 𝕄 := iprop(∃ K, sky (D m) K ∗ ready c)

theorem hopen (c : Dev nD) : iprop(handed m c ∗ Pipeline.ownSems0 ksem c ∗ levAts L lv) ⊢ (|={Set.univ}=> opened m c : sProp 𝕄) := by
  rw [ownSems_eq]
  unfold handed opened
  iintro ⟨⟨%K, #H, Hs⟩, Hz, -⟩
  imod (start_ready (D m) K c) $$ [Hs Hz] with Hr
  · isplitr; · iexact H
    isplitl [Hs]; · iexact Hs
    iexact Hz
  imodintro
  iexists K
  isplitr; · iexact H
  iexact Hr

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest spec0 c ∗ (∃ r, prngReg c r) ∗ StableHlo.held (c.tc : Thread nD τ) ∅ (V₁ m c) ∗ opened m c)
    ⊢ (dat0 m c).Φ 0 := by
  rw [inv_start]
  unfold before0 opened
  iintro ⟨Hs, Hp, -, Ho⟩
  ihave Hs := (rest_eq (F := F) c).1 $$ Hs
  icases Hs with ⟨Hs, Hw⟩
  isplitl [Ho]; · iexact Ho
  isplitl [Hs]; · iexact Hs
  isplitl [Hw]; · iexact Hw
  iexact Hp

theorem hout (c : Dev nD) : (dat0 m c).Φ (Fin.last _)
    ⊢ iprop(Pipeline.scopedRest spec0 c ∗ (∃ r, prngReg c r) ∗ StableHlo.held (c.tc : Thread nD τ) ∅ (V₂ m c) ∗ Pipeline.ownSems0 ksem c ∗ semVal (bar c) 0) := by
  rw [inv_last, ownSems_eq, held_none]
  unfold after0
  iintro ⟨Hb, Hz, Hs, Hw, Hp⟩
  isplitl [Hs Hw]
  · iapply (rest_eq (F := F) c).2
    isplitl [Hs]; · iexact Hs
    iexact Hw
  isplitl [Hp]; · iexact Hp
  isplitr; · iempintro
  isplitl [Hz]; · iexact Hz
  iexact Hb

theorem low_stage : ∀ (w : Fin cfg0.W) (s : Fin (cfg0.win w).nbuf), kindLv (kindOf (.dma ((cfg0.win w).sem s))) = 0 := by decide

theorem cutD (c : Dev nD) (t : Fin (cfg0.N + 1)) (g : GSem nD τ sig) (i : Unit) (h : 0 < (dat0 m c).owed t g i) : i ∈ L g ∧ (0 : ℕ) < lv g i := by
  rw [owed_at] at h
  split at h
  · obtain ⟨k, -, rfl⟩ := owe_pos c 12 g i h
    refine ⟨?_, ?_⟩
    · unfold L; rw [if_pos (due_tc c k)]; exact Finset.mem_singleton_self _
    · have e := due_lv c k
      show 0 < lv (dueCell c k) ()
      rw [e]; unfold dueLv; split <;> decide
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 ksem ksem_facts
    ∅ (bufs \ arrs) (Finset.empty_subset _) launch0.toP rfl (fun c => (body0 m c).loose)
    (fun _ => 0) (fun c => owe c 12) (fun c => (owed_start m c).trans (zero_add _).symm) (owed_last m) (fun _ => rfl)
    (fun c w => by fin_cases w <;> rfl)
    (V₁ m) (V₂ m) (fun c b hb => Pipeline.afterRegion_off (dat0 m c) (V₁ m c) bufs b (Finset.sdiff_subset hb))
    (handed m) (fun c => semVal (bar c) 0) (opened m) (fun c => semVal (bar c) 0) (hopen m) (hin m) (hout m)
    (fun c => by iintro H; imodintro; iexact H)
    (fun _ => 0)
    ⟨fun c w s => by rw [L_tc]; exact Finset.mem_singleton_self _, fun c w s => le_of_eq (low_stage w s), fun c t g i h => cutD m c t g i h⟩
    (fun _ => iprop(emp))
    (fun c w => rfl) (fun c w => (Pipeline.afterRegion_arr (dat0 m c) (V₁ m c) winFacts0.arr_inj w).symm)

/-- What rides beside the buffers from launch to the pallas_call. -/
def R (c : Dev nD) : sProp 𝕄 := iprop(handed m c ∗ (∃ r, prngReg c r) ∗ owing c 12)

def seg0 : ℍ := Pipeline.HostSeg.ofOps _ _ _ _ _ bufs hostOps0 (fun op h => Pipeline.sub_ucRefs op (List.forall_iff_forall_mem.mp hostOps0_sub op h)) (List.forall_iff_forall_mem.mp hostOps0_fresh) (V₀ m) (R m)

theorem reg0_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ handed m c ∗ ∃ Wd, owes (c : Thread nD τ) (0 + owe c 12) Wd)
  rw [StableHlo.held_sub_split (c.tc : Thread nD τ) arrs_sub (V₁ m c), zero_add]
  unfold R owing
  iintro ⟨⟨Ha, Hr⟩, Hs, Hp, HO⟩
  isplitl [Ha]; · iexact Ha
  isplitl [Hp]; · iexact Hp
  isplitl [Hr]
  · isplitl [Hr]; · iexact Hr
    iempintro
  isplitl [Hs]; · iexact Hs
  iexact HO

theorem reg0_post (c : Dev nD) : (reg0 m).post c
    ⊢ iprop((StableHlo.held (c : Thread nD τ) bufs (V₂ m c) ∗ semVal (bar c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ semVal (bar c) 0 ∗ ∃ Wd, owes (c : Thread nD τ) (0 : CellTallies nD τ sig Unit) Wd) ⊢ _
  rw [StableHlo.held_sub_split (c.tc : Thread nD τ) arrs_sub (V₂ m c)]
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg0 m), .region (reg0 m)]

/-! ## The launch -/

/-- The launch element: the pipeline library's at the staging cells; the exchange's at its own. -/
def u₀ : UU :=
  (initOf (Pipeline.cells (Pipeline.pin (pcfgs (F := F)) adm) cellOf_inj) (Pipeline.launchToks (Pipeline.pin (pcfgs (F := F)) adm) cellOf_inj),
    launchOf barCells dmaCells talkToks)

/-- A resource parked on one device. -/
def onDev (c₀ : Dev nD) (X : sProp (MT nD τ sig Unit (Elt F) ℕ UU ℕ)) (c : Dev nD) : sProp 𝕄 := if c = c₀ then X else iprop(emp)
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells dmaCells talkToks)))

theorem unscopedSems0_eq (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem cell_mem (c : Dev nD) (k : Kind) : cell c k ∈ (barCells ∪ dmaCells : Finset (GSem nD τ sig)) :=
  match k with
  | none => Finset.mem_union_left _ (Finset.mem_map_of_mem barEmb (Finset.mem_univ c))
  | some (a, i) => Finset.mem_union_right _ (Finset.mem_map_of_mem dmaEmb (Finset.mem_univ ((c, i), a)))

/-- The records made at launch are those every device keeps. -/
theorem sky_of (κ : GSem nD τ sig → ℕ) :
    iprop((bigSep (barCells ∪ dmaCells) fun g => cellInv ER (sched (D m)) (κ g) g) ∗ (bigSep barCells fun g => reached ER g 0) ∗ levAts L lv)
      ⊢ (sky (D m) κ : sProp 𝕄) := by
  have hall : (bigSep (barCells ∪ dmaCells) fun g => (cellInv ER (sched (D m)) (κ g) g : sProp 𝕄))
      ⊢ bigSep Finset.univ fun p : Dev nD × Kind => cellInv ER (sched (D m)) (κ (cell p.1 p.2)) (cell p.1 p.2) := by
    refine (BI.bigSep_subset (t := Finset.univ.map ⟨fun p : Dev nD × Kind => cell p.1 p.2, cell_inj⟩) fun g hg => ?_).trans ?_
    · obtain ⟨p, -, rfl⟩ := Finset.mem_map.mp hg; exact cell_mem p.1 p.2
    · exact Entails.of_eq (bigSep_map (s := Finset.univ) ⟨fun p : Dev nD × Kind => cell p.1 p.2, cell_inj⟩
        (Φ := fun g : GSem nD τ sig => (cellInv ER (sched (D m)) (κ g) g : sProp 𝕄)))
  have hbar : (bigSep barCells fun g => (reached ER g 0 : sProp 𝕄)) ⊢ bigSep Finset.univ fun c : Dev nD => reached ER (bar c) 0 := by
    exact Entails.of_eq (bigSep_map (s := Finset.univ) barEmb (Φ := fun g : GSem nD τ sig => (reached ER g 0 : sProp 𝕄)))
  unfold sky
  rw [levs_eq]
  iintro ⟨H1, H2, H3⟩
  isplitl [H1]; · iapply hall $$ H1
  isplitl [H2]; · iapply hbar $$ H2
  iexact H3

/-- What a device gets beside the records. -/
def share (c : Dev nD) : sProp 𝕄 :=
  iprop((StableHlo.held (c : Thread nD τ) bufs (V₀ m c) ∗ (cred (tallyAt (bar c) () 3) ∗ bigSep Finset.univ fun i => linkCred c i)
    ∗ owing c 12 ∗ ∃ r, prngReg c r)
    ∗ atPos ER (bar c) 0 ∅ 0 ∗ (bigSep Finset.univ fun i => linkTok c i) ∗ bigSep Finset.univ fun i => linkDoor c i)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bar c) 0)

theorem T₀_intro (κ : GSem nD τ sig → ℕ) (c : Dev nD) : iprop(sky (D m) κ ∗ share m c) ⊢ T₀ m c := by
  unfold share T₀ R handed start
  rw [Ring.bigSep_fin3, Ring.bigSep_fin3, Ring.bigSep_fin3]
  iintro ⟨H, ⟨Hh, ⟨Hc, C0, C1, C2⟩, HO, Hp⟩, Ha, ⟨T0, T1, T2⟩, D0, D1, D2⟩
  isplitl [Hh]; · iexact Hh
  isplitr [HO Hp]
  · iexists κ
    isplitl [H]; · iexact H
    isplitl [Hc]; · iexact Hc
    isplitl [Ha]; · iexact Ha
    isplitl [T0 C0 D0]
    · isplitl [T0]; · iexact T0
      isplitl [C0]; · iexact C0
      iexact D0
    isplitl [T1 C1 D1]
    · isplitl [T1]; · iexact T1
      isplitl [C1]; · iexact C1
      iexact D1
    isplitl [T2]; · iexact T2
    isplitl [C2]; · iexact C2
    iexact D2
  isplitl [Hp]; · iexact Hp
  iexact HO

theorem init :
    iprop((bigSep Finset.univ fun c : Dev nD => iprop(unscopedBufs c (fun b => m ((c : Thread nD τ).loc b)) ∗ unscopedSems0 c
          ∗ owes (c : Thread nD τ) (owe c 12) ∅ ∗ Pipeline.launchCred (fun d => owe d 12) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c 12) ∅ ∗ Pipeline.launchCred (fun d => owe d 12) c ∗ prngReg c (ρ c) ∗ G c)
      ⊢ (iprop((StableHlo.held (c : Thread nD τ) bufs (V₀ m c) ∗ (cred (tallyAt (bar c) () 3) ∗ bigSep Finset.univ fun i => linkCred c i)
        ∗ owing c 12 ∗ ∃ r, prngReg c r) ∗ (semVal (bar c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold owing
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus]; · iexact Hus
    iexact HG
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun i : Fin 3 => (linkDoor c i : sProp 𝕄)) :=
    Entails.of_eq (by
      rw [bigSep_map, bigSep_univ_prod, bigSep_univ_prod]
      rfl)
  have htok : bigSep Finset.univ (fun p : Dev nD × Fin 3 => (linkTok p.1 p.2 : sProp 𝕄))
      ⊢ bigSep Finset.univ (fun c : Dev nD => bigSep Finset.univ fun i : Fin 3 => (linkTok c i : sProp 𝕄)) :=
    Entails.of_eq (bigSep_univ_prod _)
  iintro ⟨H, #Hlev⟩
  ihave H' := (show (bigSep Finset.univ fun c : Dev nD => iprop(unscopedBufs c (fun b => m ((c : Thread nD τ).loc b)) ∗ unscopedSems0 c
          ∗ owes (c : Thread nD τ) (owe c 12) ∅ ∗ Pipeline.launchCred (fun d => owe d 12) c ∗ prngReg c (ρ c) ∗ G c))
      ⊢ (bigSep Finset.univ fun c : Dev nD => iprop((StableHlo.held (c : Thread nD τ) bufs (V₀ m c)
        ∗ (cred (tallyAt (bar c) () 3) ∗ bigSep Finset.univ fun i => linkCred c i)
        ∗ owing c 12 ∗ ∃ r, prngReg c r) ∗ (semVal (bar c) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells dmaCells talkToks)) from
    Entails.of_eq (bigSep_onDev (F := F) 0 (BI.own (ER (launchOf barCells dmaCells talkToks))))) $$ HG
  imod (Rounds.fund_launch ER (sched (D m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := sky (D m) κ) (Φ := share m) fun c _ => T₀_intro m κ c)
  isplitr
  · iapply (sky_of m κ)
    isplitr; · iexact Hinv
    isplitr; · iexact Hr
    iexact Hlev
  unfold share
  iapply pair
  isplitl [HB]; · iexact HB
  iapply pair; isplitl [Hat]; · iapply hat $$ Hat
  iapply pair
  isplitl [Htok]
  · iapply htok
    iapply (toks_dealt (F := F)) $$ Htok
  iapply hopen $$ Hopen

/-! ## The run -/

theorem unscoped_eq : ∀ sm : SemLoc sig, sm.isScoped .tc = false → sm = .reg barS := by decide

theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v3) ↦{fullShare} W (Proc.devRef .tc main_v3)) ∗ (((c : Thread nD τ).loc main_v1) ↦{fullShare} W (Proc.devRef .tc main_v1))
      ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_arg2, Proc.devRef .tc main_arg3,
    Proc.devRef .tc main_v3, Proc.devRef .tc main_v1, Proc.devRef .tc main_v2] (by decide) (by decide)]
  rfl

set_option backward.isDefEq.respectTransparency.types false in
/-- From any memory with all counters at zero every execution ends, with the buffers as the pallas_call leaves them and all
    counters at zero again. -/
theorem run_bufs : θ_run defs (onTc (τ := τ) (main (F := F))) (s₀ m ρ)
    (fun r => (∀ c : Dev nD, r.2.mem ((c : Thread nD τ).loc main_arg0) = V₂ m c (Proc.devRef .tc main_arg0)
        ∧ r.2.mem ((c : Thread nD τ).loc main_arg1) = V₂ m c (Proc.devRef .tc main_arg1)
        ∧ r.2.mem ((c : Thread nD τ).loc main_arg2) = V₂ m c (Proc.devRef .tc main_arg2)
        ∧ r.2.mem ((c : Thread nD τ).loc main_arg3) = V₂ m c (Proc.devRef .tc main_arg3)
        ∧ r.2.mem ((c : Thread nD τ).loc main_v3) = V₂ m c (Proc.devRef .tc main_v3)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := fun c => owe c 12) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_arg3) = V₂ m c (Proc.devRef .tc main_arg3)
        ∧ s.mem ((c : Thread nD τ).loc main_v3) = V₂ m c (Proc.devRef .tc main_v3)) ∧ s.sem (bar c) = 0)
    (hfin := fun c s' => by
      dsimp only [Tₙ]; rw [bufs_eq]
      iintro ⟨⟨⟨H0, H1, H2, H3, Ho, -, -⟩, Hb⟩, HSI⟩
      icombine HSI H0 gives %h0
      icombine HSI H1 gives %h1
      icombine HSI H2 gives %h2
      icombine HSI H3 gives %h3
      icombine HSI Ho gives %ho
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ ho⟩, by simpa using hb⟩
      iexact HSI)
    (hQ := fun s h hs => ⟨fun c => (h c).1,
      sem_eq_zero hs fun c sm hsm => by
        obtain rfl := unscoped_eq sm hsm
        exact (h c).2⟩)

end Cert.KernelIdeal.Moe

end
-- ==== Proof.Ends.lean ====
/- The end of the program: the arguments as they were, the result in the result array, every counter at zero. -/
module

public import proofs.«01_k».proof.Proof.Run
public import Idealize.ShloMosaic.Lib.Pipeline.ValueKit

@[expose] public section

set_option maxRecDepth 4096
set_option synthInstance.maxSize 4096

noncomputable section

namespace Cert.KernelIdeal.Moe

open Cert.KernelIdeal Cert.KernelIdeal.Gen Cert.Steps
open Idealize.ShloMosaic Idealize.ShloMosaic.TcCoe
open Idealize.SL.Sem
open Idealize.ShloMosaic.Pipeline (Dat Cfg BodyObligation)

variable {F : FTy → Type} [FloatOps F]

variable (m : (ℓ : Loc nD τ sig) → Buf (Elt F) ℓ) (ρ : Dev nD → PrngReg)

theorem left_arg0 (c : Dev nD) : V₂ m c (Proc.devRef .tc main_arg0) = m ((c : Thread nD τ).loc main_arg0) :=
  (Pipeline.afterRegion_arr (dat0 m c) (V₁ m c) winFacts0.arr_inj 0).trans (((dat0 m c).arrAt_in 0 rfl _).trans (V_main_arg0 m c))
theorem left_arg1 (c : Dev nD) : V₂ m c (Proc.devRef .tc main_arg1) = m ((c : Thread nD τ).loc main_arg1) :=
  (Pipeline.afterRegion_of_not_arr (dat0 m c) (V₁ m c) (by decide)).trans (V_main_arg1 m c)
theorem left_arg2 (c : Dev nD) : V₂ m c (Proc.devRef .tc main_arg2) = m ((c : Thread nD τ).loc main_arg2) :=
  (Pipeline.afterRegion_arr (dat0 m c) (V₁ m c) winFacts0.arr_inj 3).trans (((dat0 m c).arrAt_in 3 rfl _).trans (V_main_arg2 m c))
theorem left_arg3 (c : Dev nD) : V₂ m c (Proc.devRef .tc main_arg3) = m ((c : Thread nD τ).loc main_arg3) :=
  (Pipeline.afterRegion_arr (dat0 m c) (V₁ m c) winFacts0.arr_inj 4).trans (((dat0 m c).arrAt_in 4 rfl _).trans (V_main_arg3 m c))

/-- Every window's one block is its whole array. -/
theorem index_zero : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] :=
  (by decide +kernel : ∀ t : Fin grid0.N, _)

theorem left_out (c : Dev nD) : V₂ m c (Proc.devRef .tc main_v3) = result (D m) c := by
  refine (Pipeline.afterRegion_arr (dat0 m c) (V₁ m c) winFacts0.arr_inj 5).trans ?_
  refine (dat0 m c).arrAt_eq_of_after_last 5 t0_0 (by decide +kernel) _ fun j => ?_
  blk_simp
  rfl

theorem block_x (c : Dev nD) : (D m).x c = m ((c : Thread nD τ).loc main_arg0) := by
  show iblk m c 0 t0_0 = _
  blk_ext! [iblk, V, index_zero t0_0]
theorem block_w1 (c : Dev nD) : (D m).w1 c = m ((c : Thread nD τ).loc main_arg2) := by
  show iblk m c 3 t0_0 = _
  blk_ext! [iblk, V, index_zero t0_0]
theorem block_w2 (c : Dev nD) : (D m).w2 c = m ((c : Thread nD τ).loc main_arg3) := by
  show iblk m c 4 t0_0 = _
  blk_ext! [iblk, V, index_zero t0_0]
theorem block_a1 (c : Dev nD) : (D m).a1 c = shapeCast S512x1 (m ((c : Thread nD τ).loc main_arg1)) shapeCasts_S512_S512x1 := by
  show iblk m c 1 t0_0 = _
  blk_ext! [iblk, V, index_zero t0_0]
theorem block_a2 (c : Dev nD) : (D m).a2 c = shapeCast S1x512 (m ((c : Thread nD τ).loc main_arg1)) shapeCasts_S512_S1x512 := by
  show iblk m c 2 t0_0 = _
  blk_ext! [iblk, V, index_zero t0_0]

/-- THE RUN: from any memory with all counters at zero, every execution ends, the arguments unchanged, each device's result
    array holding its result, and every counter at zero. -/
theorem run : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v3) = result (D m) c) ∧ r.2.sem = fun _ => 0) :=
  (θ_run defs _ _).mono (fun _ h => ⟨fun c => by
    obtain ⟨h0, h1, h2, h3, h4⟩ := h.1 c
    exact ⟨h0.trans (left_arg0 m c), h1.trans (left_arg1 m c), h2.trans (left_arg2 m c), h3.trans (left_arg3 m c), h4.trans (left_out m c)⟩, h.2⟩)
    (run_bufs m ρ)

end Cert.KernelIdeal.Moe

end
-- ==== Proof.Frames.lean ====
/-
  What each program does apart from its values: it ends, its arguments are unchanged, every counter is at zero.
-/
module

public import proofs.«01_k».proof.Defs
public import proofs.«01_k».proof.Proof.Ends
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The kernel over the extended reals. -/
theorem kernel_quiet : @Cert.quiescent_KernelIdeal Cert.KernelIdeal.Gen.facts := fun m g _ =>
  (θ_run (Cert.KernelIdeal.defs (F := Ideal)) (onTc (τ := Cert.KernelIdeal.τ) (Cert.KernelIdeal.main (F := Ideal))) _).mono
    (fun _ h => ⟨fun c => ⟨(h.1 c).1, (h.1 c).2.1, (h.1 c).2.2.1, (h.1 c).2.2.2.1⟩, h.2⟩)
    (Cert.KernelIdeal.Moe.run (F := Ideal) m g)

/-- The reference, which has no counter. -/
theorem reference_quiet : @Cert.quiescent_ReferenceIdeal Cert.ReferenceIdeal.Gen.facts := fun m g _ =>
  (θ_run (Cert.ReferenceIdeal.defs (F := Ideal)) (onTc (τ := Cert.ReferenceIdeal.τ) (Cert.ReferenceIdeal.main (F := Ideal))) _).mono
    (fun r h => ⟨fun c => (h c).2, sem_eq_zero_of_no_sems (by decide) r.2⟩)
    (Cert.ReferenceIdeal.Value.run (F := Ideal) m g)

end Cert.Frames

end
-- ==== Proof.Same.lean ====
/-
  The program as printed and its reading over the extended reals are one text, so what holds of the second at every
  choice of number system holds of the first at the floats. The functions agree by unfolding; the table of bodies
  agrees label by label.
-/
module

public import proofs.«01_k».proof.Proof.Ends
public import proofs.«01_k».proof.Proof.Gen.Kernel
public import proofs.«01_k».proof.Defs

@[expose] public section

set_option maxRecDepth 100000

noncomputable section

namespace Cert.Same

open Idealize.ShloMosaic Idealize.SL.Sem

/-- The kernel's body is the same function. -/
theorem body_eq : @Cert.Kernel.cc0_body Bits _ Cert.Kernel.Gen.facts = @Cert.KernelIdeal.cc0_body Bits _ Cert.KernelIdeal.Gen.facts :=
  rfl

/-- Its label runs the same function at each point. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl

/-- So the two tables of bodies are one. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) defs₀_eq

/-- The printed kernel runs, its arguments end unchanged and every counter ends at zero. -/
theorem quiet : @Cert.quiescent_Kernel Cert.Kernel.Gen.facts := fun m g _ => by
  rw [defs_eq]
  exact (θ_run (Cert.KernelIdeal.defs (F := Bits)) (onTc (τ := Cert.KernelIdeal.τ) (Cert.KernelIdeal.main (F := Bits))) _).mono
    (fun _ h => ⟨fun c => ⟨(h.1 c).1, (h.1 c).2.1, (h.1 c).2.2.1, (h.1 c).2.2.2.1⟩, h.2⟩)
    (Cert.KernelIdeal.Moe.run (F := Bits) m g)

end Cert.Same

end
-- ==== Proof.Expert.lean ====
/- An expert's two layers on one row, and the sum, over the experts, of the result of the one whose number the tag is. -/
module

public import Idealize.ShloMosaic.Lib.Pointwise

@[expose] public section

noncomputable section

namespace Cert.Expert

open Idealize.ShloMosaic

/-- One row through an expert's two layers. -/
def ffn (x : Fin 512 → EReal) (w1 : Fin 512 → Fin 1024 → EReal) (w2 : Fin 1024 → Fin 512 → EReal) (d : Fin 512) : EReal :=
  ∑ f : Fin 1024, max (∑ k : Fin 512, x k * w1 k f) 0 * w2 f d

/-- A row, or zeros. -/
def gate (b : Prop) [Decidable b] (x : Fin 512 → EReal) : Fin 512 → EReal := fun k => if b then x k else 0

/-- Zeros give zero. -/
theorem ffn_gate (b : Prop) [Decidable b] (x : Fin 512 → EReal) (w1 : Fin 512 → Fin 1024 → EReal) (w2 : Fin 1024 → Fin 512 → EReal)
    (d : Fin 512) : ffn (gate b x) w1 w2 d = if b then ffn x w1 w2 d else 0 := by
  by_cases h : b
  · rw [if_pos h]; exact congrArg (fun y => ffn y w1 w2 d) (funext fun k => if_pos h)
  · rw [if_neg h]
    simp only [ffn, gate, if_neg h, zero_mul, Finset.sum_const_zero, max_self]

/-- What expert `e` contributes to a token tagged `a`. -/
def part (a : BitVec 32) (E : Fin 8 → EReal) (e : Fin 8) : EReal := if a = BitVec.ofNat 32 e.val then E e else 0

/-- What all contribute together. -/
def total (a : BitVec 32) (E : Fin 8 → EReal) : EReal := ∑ e, part a E e

theorem num_inj : ∀ e e' : Fin 8, BitVec.ofNat 32 e.val = BitVec.ofNat 32 e'.val → e = e' := by decide

/-- A tag that is a number selects that expert. -/
theorem total_num (e : Fin 8) (E : Fin 8 → EReal) : total (BitVec.ofNat 32 e.val) E = E e := by
  unfold total
  rw [Finset.sum_eq_single e]
  · exact if_pos rfl
  · intro e' _ h
    exact if_neg fun k => h (num_inj _ _ k).symm
  · intro h; exact absurd (Finset.mem_univ e) h

/-- The same as a chain of choices, the last expert first. -/
theorem total_eq (a : BitVec 32) (E : Fin 8 → EReal) : total a E
    = if a = 7#32 then E 7 else if a = 6#32 then E 6 else if a = 5#32 then E 5 else if a = 4#32 then E 4
      else if a = 3#32 then E 3 else if a = 2#32 then E 2 else if a = 1#32 then E 1 else if a = 0#32 then E 0 else 0 := by
  by_cases h : ∃ e : Fin 8, a = BitVec.ofNat 32 e.val
  · obtain ⟨e, rfl⟩ := h
    rw [total_num]
    fin_cases e <;> rfl
  · have hn : ∀ e : Fin 8, ¬a = BitVec.ofNat 32 e.val := fun e k => h ⟨e, k⟩
    have hz : total a E = 0 := Finset.sum_eq_zero fun e _ => if_neg (hn e)
    rw [hz, if_neg (show ¬a = 7#32 from hn 7), if_neg (show ¬a = 6#32 from hn 6), if_neg (show ¬a = 5#32 from hn 5), if_neg (show ¬a = 4#32 from hn 4),
      if_neg (show ¬a = 3#32 from hn 3), if_neg (show ¬a = 2#32 from hn 2), if_neg (show ¬a = 1#32 from hn 1), if_neg (show ¬a = 0#32 from hn 0)]

/-- Two neighbouring experts' contributions: those of one device. -/
def pair (a : BitVec 32) (E : Fin 8 → EReal) (z : Fin 4) : EReal :=
  (0 + part a E ⟨2 * z.val, by omega⟩) + part a E ⟨2 * z.val + 1, by omega⟩

theorem total_pairs (a : BitVec 32) (E : Fin 8 → EReal) : total a E = ∑ z, pair a E z := by
  unfold total pair
  rw [Fin.sum_univ_eight, Fin.sum_univ_four]
  simp only [zero_add]
  show part a E 0 + part a E 1 + part a E 2 + part a E 3 + part a E 4 + part a E 5 + part a E 6 + part a E 7
    = (part a E 0 + part a E 1) + (part a E 2 + part a E 3) + (part a E 4 + part a E 5) + (part a E 6 + part a E 7)
  simp only [add_assoc]

end Cert.Expert

end
-- ==== Proof.Ffn.lean ====
/- One block of rows through a device's two experts, read at an index: for each expert, the rows tagged for it go through
   its two layers, all others as zeros, and the two results are added. -/
module

public import proofs.«01_k».proof.Proof.Protocol
public import proofs.«01_k».proof.Proof.Expert
public import Idealize.ShloMosaic.Lib.Pointwise

@[expose] public section

set_option maxRecDepth 4096
set_option synthInstance.maxSize 4096

noncomputable section

namespace Cert.KernelIdeal.Vals

open Cert.KernelIdeal Cert.KernelIdeal.Gen Cert.KernelIdeal.Moe Cert.Steps Cert.Expert
open Idealize.ShloMosaic Idealize.ShloMosaic.TcCoe

/-- The tag of expert `e` of the device at coordinate word `w`. -/
def tagOf (w : BitVec 32) (e : BitVec 32) : EReal := (((Scalar.addi (Scalar.addi (Scalar.muli w 2#32) e) 1#32).toInt : ℝ) : EReal)

/-- A tagged row through a device's two experts. -/
def both (w : BitVec 32) (x : Fin 512 → EReal) (t : EReal) (A0 : Fin 512 → Fin 1024 → EReal) (B0 : Fin 1024 → Fin 512 → EReal)
    (A1 : Fin 512 → Fin 1024 → EReal) (B1 : Fin 1024 → Fin 512 → EReal) (d : Fin 512) : EReal :=
  (0 + ffn (gate (t = tagOf w 0#32) x) A0 B0 d) + ffn (gate (t = tagOf w 1#32) x) A1 B1 d

/-- Expert `0`'s and `1`'s weights out of a block of one. -/
abbrev up (A : Vec Ideal S1x512x1024 .bf16) : Fin 512 → Fin 1024 → EReal := fun k f => A (ix3 0 k f)
abbrev down (B : Vec Ideal S1x1024x512 .bf16) : Fin 1024 → Fin 512 → EReal := fun f d => B (ix3 0 f d)

variable (w : BitVec 32) (A A' : Vec Ideal S1x512x1024 .bf16) (B B' : Vec Ideal S1x1024x512 .bf16)

theorem own_at (X : FVec Ideal S512x512 .bf16) (T : FVec Ideal S512x1 .bf16) (r d : Fin 512) :
    k0_pay21 w X T (k0_pay18 (F := Ideal)) (k0_pay19 w X T A) (k0_pay20 (F := Ideal)) B A' B' (ix2 r d)
      = both w (fun k => X (ix2 r k)) (T (ix2 r 0)) (up A) (down B) (up A') (down B') d := by
  pointwise [k0_pay18, k0_pay19, k0_pay20, k0_pay21, both, ffn, gate, tagOf]
  simp only [BitVec.toInt_zero, Int.cast_zero, EReal.coe_zero]

theorem answer0_at (X : FVec Ideal S160x512 .bf16) (T : FVec Ideal S160x1 .bf16) (r : Fin 160) (d : Fin 512) :
    k0_pay24 w X T (k0_pay22 (F := Ideal)) (k0_pay23 w X T A) B A' B' (ix2 r d)
      = both w (fun k => X (ix2 r k)) (T (ix2 r 0)) (up A) (down B) (up A') (down B') d := by
  pointwise [k0_pay22, k0_pay23, k0_pay24, both, ffn, gate, tagOf]
  simp only [BitVec.toInt_zero, Int.cast_zero, EReal.coe_zero]

theorem answer1_at (X : FVec Ideal S160x512 .bf16) (T : FVec Ideal S160x1 .bf16) (r : Fin 160) (d : Fin 512) :
    k0_pay28 X (k0_pay25 w X T A B) (k0_pay26 (F := Ideal)) (k0_pay27 (F := Ideal) w T) A' B' (ix2 r d)
      = both w (fun k => X (ix2 r k)) (T (ix2 r 0)) (up A) (down B) (up A') (down B') d := by
  pointwise [k0_pay25, k0_pay26, k0_pay27, k0_pay28, both, ffn, gate, tagOf]
  simp only [BitVec.toInt_zero, Int.cast_zero, EReal.coe_zero]

theorem answer2_at (X : FVec Ideal S160x512 .bf16) (T : FVec Ideal S160x1 .bf16) (r : Fin 160) (d : Fin 512) :
    k0_pay33 (k0_pay32 w X T (k0_pay29 (F := Ideal)) (k0_pay30 (F := Ideal)) (k0_pay31 (F := Ideal) w T) A B A' B') (ix2 r d)
      = both w (fun k => X (ix2 r k)) (T (ix2 r 0)) (up A) (down B) (up A') (down B') d := by
  pointwise [k0_pay29, k0_pay30, k0_pay31, k0_pay32, k0_pay33, both, ffn, gate, tagOf]
  simp only [BitVec.toInt_zero, Int.cast_zero, EReal.coe_zero]

end Cert.KernelIdeal.Vals
-- ==== Proof.Rank.lean ====
/- The rank of a token among the marked ones, and the trip there and back: picking by rank, and putting back. -/
module

public import Idealize.ShloMosaic.PureOps.Ideal

@[expose] public section

noncomputable section

namespace Cert.Rank

open scoped BigOperators

variable {n : ℕ} (P : Fin n → Prop) [DecidablePred P]

/-- How many marked tokens lie at or before `t`. -/
def cnt (t : Fin n) : ℕ := (Finset.univ.filter fun x => P x ∧ x ≤ t).card

theorem cnt_le_total (t : Fin n) : cnt P t ≤ (Finset.univ.filter P).card :=
  Finset.card_le_card fun x hx => by
    rw [Finset.mem_filter] at hx ⊢; exact ⟨hx.1, hx.2.1⟩

theorem cnt_le (t : Fin n) : cnt P t ≤ n :=
  le_trans (Finset.card_le_univ _) (le_of_eq (Fintype.card_fin n))

theorem cnt_pos {t : Fin n} (h : P t) : 0 < cnt P t :=
  Finset.card_pos.2 ⟨t, Finset.mem_filter.2 ⟨Finset.mem_univ _, h, le_refl t⟩⟩

theorem cnt_lt {t u : Fin n} (h : P u) (l : t < u) : cnt P t < cnt P u := by
  refine Finset.card_lt_card ⟨fun x hx => ?_, fun hs => ?_⟩
  · rw [Finset.mem_filter] at hx ⊢; exact ⟨hx.1, hx.2.1, le_trans hx.2.2 (le_of_lt l)⟩
  · exact absurd (Finset.mem_filter.1 (hs (Finset.mem_filter.2 ⟨Finset.mem_univ u, h, le_refl u⟩))).2.2 (not_le.2 l)

theorem cnt_inj {t u : Fin n} (ht : P t) (hu : P u) (h : cnt P t = cnt P u) : t = u := by
  rcases lt_trichotomy t u with l | e | l
  · exact absurd h (ne_of_lt (cnt_lt P hu l))
  · exact e
  · exact absurd h.symm (ne_of_lt (cnt_lt P ht l))

/-- Row `s` marks the `s`-th of the marked tokens. -/
def mark (C : ℕ) (s : Fin C) (t : Fin n) : EReal := if P t ∧ s.val + 1 = cnt P t then 1 else 0

variable (C : ℕ)

/-- The row a marked token goes to holds what the token has. -/
theorem picked {s : Fin C} {t : Fin n} (h : P t ∧ s.val + 1 = cnt P t) (X : Fin n → EReal) :
    ∑ x, mark P C s x * X x = X t := by
  rw [Finset.sum_eq_single t]
  · rw [mark, if_pos h, one_mul]
  · intro x _ hx
    rw [mark, if_neg, zero_mul]
    rintro ⟨px, ex⟩
    exact hx (cnt_inj P px h.1 (ex.symm.trans h.2))
  · intro hn; exact absurd (Finset.mem_univ t) hn

/-- Put back, a marked token finds its row's answer; the others find zero. -/
theorem put_back (hC : (Finset.univ.filter P).card ≤ C) (t : Fin n) (G : Fin C → EReal) (g : EReal)
    (hG : ∀ s : Fin C, P t ∧ s.val + 1 = cnt P t → G s = g) : ∑ s, mark P C s t * G s = if P t then g else 0 := by
  by_cases h : P t
  · have hp := cnt_pos P h
    have hl := le_trans (cnt_le_total P t) hC
    have hs : (⟨cnt P t - 1, by omega⟩ : Fin C).val + 1 = cnt P t := by show cnt P t - 1 + 1 = _; omega
    rw [if_pos h, Finset.sum_eq_single (⟨cnt P t - 1, by omega⟩ : Fin C)]
    · rw [mark, if_pos ⟨h, hs⟩, one_mul, hG _ ⟨h, hs⟩]
    · intro s _ hne
      rw [mark, if_neg, zero_mul]
      rintro ⟨-, e⟩
      exact hne (Fin.ext (by omega))
    · intro hn; exact absurd (Finset.mem_univ _) hn
  · rw [if_neg h]
    refine Finset.sum_eq_zero fun s _ => ?_
    rw [mark, if_neg (fun k => h k.1), zero_mul]

end Cert.Rank

end
-- ==== Proof.Pick.lean ====
/- The one-hot rows: row `s` marks the token that is the `s`-th, counted from 0, of those owned by the peer. -/
module

public import proofs.«01_k».proof.Proof.Protocol
public import proofs.«01_k».proof.Proof.Rank
public import Idealize.ShloMosaic.Lib.Affine
public import Idealize.ShloMosaic.Lib.Pointwise

@[expose] public section

set_option maxRecDepth 4096
set_option synthInstance.maxSize 4096

noncomputable section

namespace Cert.KernelIdeal.Vals

open Cert.KernelIdeal Cert.KernelIdeal.Gen Cert.KernelIdeal.Moe Cert.Steps
open Cert.Rank
open Idealize.ShloMosaic Idealize.ShloMosaic.TcCoe

/-- The token's owner: the tag halved. -/
def ownerOf (a : BitVec 32) : BitVec 32 := IntOp.shrsi .vector a 1#32

/-- A one-bit word, widened and read as a number, is `1` or `0`. -/
theorem bit_num (b : BitVec 1) (p : Prop) [Decidable p] (h : b = 1#1 ↔ p) (φ : FTy) :
    FloatOps.sitofp (F := Ideal) φ (BitVec.setWidth 32 b) = if p then 1 else 0 := by
  show (((BitVec.setWidth 32 b).toInt : ℝ) : EReal) = _
  by_cases hp : p
  · rw [if_pos hp, h.2 hp, show (BitVec.setWidth 32 1#1).toInt = 1 from by decide]; norm_num
  · have hb : b = 0#1 := by
      rcases BitVec.eq_zero_or_eq_one b with e | e
      · exact e
      · exact absurd (h.1 e) hp
    rw [if_neg hp, hb, show (BitVec.setWidth 32 0#1).toInt = 0 from by decide]; norm_num

theorem word_int (n : ℕ) (h : n ≤ 512) : (BitVec.ofNat 32 n).toInt = (n : ℤ) := by
  rw [BitVec.toInt_eq_toNat_of_lt (by rw [BitVec.toNat_ofNat]; omega), BitVec.toNat_ofNat]; omega

theorem le_word (x t : Fin 512) : IntOp.cmpi .sle (BitVec.ofNat 32 x.val) (BitVec.ofNat 32 t.val) = 1#1 ↔ x ≤ t := by
  rw [IntOp.cmpi_sle, word_int _ (by omega), word_int _ (by omega), Fin.le_def, Int.ofNat_le]

/-- A small number, turned to a word. -/
theorem word_of (n : ℕ) (h : n ≤ 512) : FloatOps.fptosi (F := Ideal) (φ := .f32) 32 ((n : ℕ) : EReal) = BitVec.ofNat 32 n := by
  show Ideal.fptosi 32 ((n : ℕ) : EReal) = _
  rw [show ((n : ℕ) : EReal) = ((n : ℝ) : EReal) from rfl, Ideal.fptosi, Ideal.toIntClamped_coe, if_pos (Nat.cast_nonneg n), Int.floor_natCast]
  rw [min_eq_right (by norm_num; omega), max_eq_right (by norm_num)]
  exact BitVec.ofInt_natCast 32 n

theorem row_word (s : Fin 160) (n : ℕ) (h0 : 0 < n) (h : n ≤ 512) :
    BitVec.ofNat 32 s.val = BitVec.ofNat 32 n - 1#32 ↔ s.val + 1 = n := by
  constructor
  · intro e
    have := congrArg BitVec.toNat e
    simp only [BitVec.toNat_sub, BitVec.toNat_ofNat] at this
    omega
  · intro e
    apply BitVec.eq_of_toNat_eq
    simp only [BitVec.toNat_sub, BitVec.toNat_ofNat]
    omega

theorem and_bits (a b : BitVec 1) : IntOp.andi a b = 1#1 ↔ a = 1#1 ∧ b = 1#1 := by revert a b; decide

theorem pick_at (w : BitVec 32) (a : IVec S1x512 32) (s : Fin 160) (t : Fin 512) :
    k0_pay5 (F := Ideal) w a (ix2 s t) = mark (fun x => ownerOf (a (ix2 0 x)) = w) 160 s t := by
  pointwise [k0_pay5, k0_pay3, k0_pay4]
  simp only [show ∀ b : BitVec 32, IntOp.shrsi .vector b 1#32 = ownerOf b from fun _ => rfl]
  have hsum : (∑ x : Fin 512, FloatOps.sitofp (F := Ideal) .f32 (BitVec.setWidth 32
        (IntOp.cmpi .eq (ownerOf (a (ix2 0 x))) w)) *
      FloatOps.sitofp (F := Ideal) .f32 (BitVec.setWidth 32 (IntOp.cmpi .sle (BitVec.ofNat 32 x.val) (BitVec.ofNat 32 t.val))))
      = ((cnt (fun x => ownerOf (a (ix2 0 x)) = w) t : ℕ) : EReal) := by
    rw [cnt, Finset.natCast_card_filter]
    refine Finset.sum_congr rfl fun x _ => ?_
    rw [bit_num _ (ownerOf (a (ix2 0 x)) = w) IntOp.cmpi_eq, bit_num _ (x ≤ t) (le_word x t)]
    by_cases h1 : ownerOf (a (ix2 0 x)) = w <;> by_cases h2 : x ≤ t <;> simp [h1, h2]
  have hc := cnt_le (fun x => ownerOf (a (ix2 0 x)) = w) t
  erw [hsum]
  rw [word_of _ hc, mark]
  refine bit_num _ _ ?_ _
  rw [and_bits, IntOp.cmpi_eq, IntOp.cmpi_eq]
  constructor
  · rintro ⟨h1, h2⟩
    exact ⟨h2, (row_word s _ (cnt_pos _ h2) hc).1 h1⟩
  · rintro ⟨h1, h2⟩
    exact ⟨(row_word s _ (cnt_pos _ h1) hc).2 h2, h1⟩

end Cert.KernelIdeal.Vals
-- ==== Proof.Device.lean ====
/- What one device's result holds at a token and a column: its own experts' share, and for each peer that peer's share if the
   peer owns the token. -/
module

public import proofs.«01_k».proof.Proof.Ffn
public import proofs.«01_k».proof.Proof.Pick

@[expose] public section

set_option maxRecDepth 4096
set_option synthInstance.maxSize 4096

noncomputable section

namespace Cert.KernelIdeal.Vals

open Cert.KernelIdeal Cert.KernelIdeal.Gen Cert.KernelIdeal.Moe Cert.Steps
open Cert.Rank Cert.Expert
open Idealize.ShloMosaic Idealize.ShloMosaic.TcCoe

variable (D : Data Ideal)

/-- The word by which a device knows its `i`-th peer. -/
def wp (c : Dev nD) : Fin 3 → BitVec 32
  | 0 => wp0 c
  | 1 => wp1 c
  | 2 => wp2 c

/-- It is the peer's own coordinate. -/
theorem wp_peer : ∀ (c : Dev nD) (i : Fin 3), wp c i = wz (peer c i) := by decide +kernel

/-- The one-hot rows for each peer: one form for all three. -/
def pick (c : Dev nD) (i : Fin 3) : FVec Ideal S160x512 .bf16 := k0_pay5 (F := Ideal) (wp c i) (D.a2 c)

theorem pick0_eq (c : Dev nD) : pick0 D c = pick D c 0 := rfl
theorem pick1_eq (c : Dev nD) : pick1 D c = pick D c 1 := rfl
theorem pick2_eq (c : Dev nD) : pick2 D c = pick D c 2 := rfl

theorem rows_at (c : Dev nD) (i : Fin 3) (r : Fin 160) (d : Fin 512) :
    rows D c i (ix2 r d) = ∑ x, pick D c i (ix2 r x) * D.x c (ix2 x d) := by
  match i with
  | 0 => pointwise [rows, rows3, k0_pay6, k0_pay7, k0_pay1, pick, wp]
  | 1 => pointwise [rows, rows3, k0_pay10, toks, k0_pay1]; rfl
  | 2 => pointwise [rows, rows3, k0_pay13, k0_pay14, toks, k0_pay1]; rfl

theorem rtag_at (c : Dev nD) (i : Fin 3) (r : Fin 160) :
    rtag D c i (ix2 r 0) = ∑ x, pick D c i (ix2 r x) * tags D c (ix2 x 0) := by
  match i with
  | 0 => pointwise [rtag, rtag3, k0_pay8, pick0_eq]
  | 1 => pointwise [rtag, rtag3, k0_pay11]; rfl
  | 2 => pointwise [rtag, rtag3, k0_pay15, pick2_eq]

/-- The weights of a device's two experts, by coordinates. -/
def upW (c : Dev nD) (e : Fin 2) : Fin 512 → Fin 1024 → EReal := fun k f => D.w1 c (ix3 e k f)
def downW (c : Dev nD) (e : Fin 2) : Fin 1024 → Fin 512 → EReal := fun f d => D.w2 c (ix3 e f d)

/-- Where the block of one expert lies in the block of two. -/
theorem cut_at {M N : ℕ} (e : Fin 2)
    (h : ∀ a, (![e.val, 0, 0] : Fin 3 → ℕ) a + (![1, M, N] : Fin 3 → ℕ) a ≤ (⟨3, ![2, M, N]⟩ : Shape).size a) (k : Fin M) (f : Fin N) :
    (Rect.unit (s := ⟨3, ![2, M, N]⟩) ![e.val, 0, 0] ![1, M, N] h).emb (ix3 0 k f) = ix3 e k f := by
  funext a
  apply Fin.ext
  rw [Rect.emb_apply]
  match a with
  | ⟨0, _⟩ => show e.val + 1 * 0 = e.val; omega
  | ⟨1, _⟩ => show 0 + 1 * k.val = k.val; omega
  | ⟨2, _⟩ => show 0 + 1 * f.val = f.val; omega

theorem wA0_at (c : Dev nD) : up (wA0 D c) = upW D c 0 := by
  funext k f
  pointwise [up, wA0, wA, k0_pay16, upW]
  exact congrArg _ (cut_at 0 _ k f)
theorem wA1_at (c : Dev nD) : up (wA1 D c) = upW D c 1 := by
  funext k f
  pointwise [up, wA1, wA, k0_pay16, upW]
  exact congrArg _ (cut_at 1 _ k f)
theorem wB0_at (c : Dev nD) : down (wB0 D c) = downW D c 0 := by
  funext k f
  pointwise [down, wB0, wB, k0_pay17, downW]
  exact congrArg _ (cut_at 0 _ k f)
theorem wB1_at (c : Dev nD) : down (wB1 D c) = downW D c 1 := by
  funext k f
  pointwise [down, wB1, wB, k0_pay17, downW]
  exact congrArg _ (cut_at 1 _ k f)

/-- What device `c`'s experts make of a tagged row. -/
def share (c : Dev nD) (x : Fin 512 → EReal) (t : EReal) (d : Fin 512) : EReal :=
  both (wz c) x t (upW D c 0) (downW D c 0) (upW D c 1) (downW D c 1) d

theorem own_eq (c : Dev nD) (t d : Fin 512) : own D c (ix2 t d) = share D c (fun k => D.x c (ix2 t k)) (tags D c (ix2 t 0)) d := by
  rw [own, own_at, wA0_at, wA1_at, wB0_at, wB1_at, share]
  congr 1
  funext k
  pointwise [toks, k0_pay1]

theorem answer_eq (c : Dev nD) (i : Fin 3) (r : Fin 160) (d : Fin 512) :
    answer D c i (ix2 r d) = share D c (fun k => got D c i (ix2 r k)) (gotTag D c i (ix2 r 0)) d := by
  unfold share
  rw [← wA0_at, ← wA1_at, ← wB0_at, ← wB1_at]
  match i with
  | 0 => exact answer0_at ..
  | 1 => exact answer1_at ..
  | 2 => exact answer2_at ..

/-- What a peer got from the device is what the device sent it. -/
theorem got_peer (c : Dev nD) (i : Fin 3) : got D (peer c i) (slot c i) = rows D c i := by
  unfold got; rw [peer_peer, slot_peer]
theorem gotTag_peer (c : Dev nD) (i : Fin 3) : gotTag D (peer c i) (slot c i) = rtag D c i := by
  unfold gotTag; rw [peer_peer, slot_peer]

theorem reply3_at (c : Dev nD) (i : Fin 3) (r : Fin 160) (d : Fin 512) : reply3 D c i (ix3 0 r d)
    = share D (peer c i) (fun k => rows D c i (ix2 r k)) (rtag D c i (ix2 r 0)) d := by
  rw [← got_peer, ← gotTag_peer, ← answer_eq]
  unfold reply3
  exact congrArg (reply D c i) ((Equiv.symm_apply_eq _).2 (by
    show ix3 0 r d = Shape.reshapeEquiv _ (ix2 r d)
    pointwise))

/-- What comes back for a token from a peer: the peer's share if the peer owns it, and zero otherwise. -/
theorem back_at (c : Dev nD) (i : Fin 3) (cap : (Finset.univ.filter fun x : Fin 512 => ownerOf (D.a2 c (ix2 0 x)) = wp c i).card ≤ 160)
    (t d : Fin 512) : ∑ s : Fin 160, pick D c i (ix2 s t) * reply3 D c i (ix3 0 s d)
      = if ownerOf (D.a2 c (ix2 0 t)) = wp c i then share D (peer c i) (fun k => D.x c (ix2 t k)) (tags D c (ix2 t 0)) d else 0 := by
  unfold pick
  simp only [pick_at]
  refine put_back _ 160 cap t _ _ fun s hs => ?_
  rw [reply3_at]
  congr 1
  · funext k
    rw [rows_at, pick]
    simp only [pick_at]
    exact picked _ 160 hs _
  · rw [rtag_at, pick]
    simp only [pick_at]
    exact picked _ 160 hs _

theorem result_at (c : Dev nD) (cap : ∀ i, (Finset.univ.filter fun x : Fin 512 => ownerOf (D.a2 c (ix2 0 x)) = wp c i).card ≤ 160)
    (t d : Fin 512) : result D c (ix2 t d) = share D c (fun k => D.x c (ix2 t k)) (tags D c (ix2 t 0)) d
      + (if ownerOf (D.a2 c (ix2 0 t)) = wp c 0 then share D (peer c 0) (fun k => D.x c (ix2 t k)) (tags D c (ix2 t 0)) d else 0)
      + (if ownerOf (D.a2 c (ix2 0 t)) = wp c 1 then share D (peer c 1) (fun k => D.x c (ix2 t k)) (tags D c (ix2 t 0)) d else 0)
      + (if ownerOf (D.a2 c (ix2 0 t)) = wp c 2 then share D (peer c 2) (fun k => D.x c (ix2 t k)) (tags D c (ix2 t 0)) d else 0) := by
  pointwise [result, k0_pay34, k0_pay35, k0_pay36, k0_pay37]
  rw [pick0_eq, pick1_eq, pick2_eq, back_at D c 0 (cap 0), back_at D c 1 (cap 1), back_at D c 2 (cap 2), own_eq]

end Cert.KernelIdeal.Vals
-- ==== Proof.Equation.lean ====
/- The shares of a token's own device and of its peers, put together, are the contributions of all eight experts. -/
module

public import proofs.«01_k».proof.Proof.Device

@[expose] public section

set_option maxRecDepth 4096
set_option synthInstance.maxSize 4096

noncomputable section

namespace Cert.KernelIdeal.Vals

open Cert.KernelIdeal Cert.KernelIdeal.Gen Cert.KernelIdeal.Moe Cert.Steps
open Cert.Rank Cert.Expert
open Idealize.ShloMosaic Idealize.ShloMosaic.TcCoe

/-- A device's place in its line. -/
def place (c : Dev nD) : Fin 4 := ⟨c.val % 4, by omega⟩

theorem wz_place : ∀ c : Dev nD, wz c = BitVec.ofNat 32 (place c).val := by decide +kernel

/-- A device and its peers stand at the four places, each once. -/
theorem places : ∀ c : Dev nD, (place c = 0 ∧ place (peer c 0) = 1 ∧ place (peer c 1) = 2 ∧ place (peer c 2) = 3)
    ∨ (place c = 1 ∧ place (peer c 0) = 0 ∧ place (peer c 1) = 2 ∧ place (peer c 2) = 3)
    ∨ (place c = 2 ∧ place (peer c 0) = 0 ∧ place (peer c 1) = 1 ∧ place (peer c 2) = 3)
    ∨ (place c = 3 ∧ place (peer c 0) = 0 ∧ place (peer c 1) = 1 ∧ place (peer c 2) = 2) := by decide +kernel

theorem sum_places (c : Dev nD) (f : Fin 4 → EReal) :
    f (place c) + f (place (peer c 0)) + f (place (peer c 1)) + f (place (peer c 2)) = ∑ z, f z := by
  rw [Fin.sum_univ_four]
  rcases places c with ⟨h, h0, h1, h2⟩ | ⟨h, h0, h1, h2⟩ | ⟨h, h0, h1, h2⟩ | ⟨h, h0, h1, h2⟩ <;>
    rw [h, h0, h1, h2]
  · rw [add_comm (f 1) (f 0)]
  · rw [add_assoc (f 2), add_comm (f 2) (f 0 + f 1)]
  · rw [add_assoc (f 3), add_assoc (f 3), add_comm (f 3) (f 0 + (f 1)+ f 2)]

/-- The global number of a device's `e`-th expert and of its `t`-th token. -/
def expertNo (c : Dev nD) (e : Fin 2) : Fin 8 := ⟨2 * (place c).val + e.val, by omega⟩
def tokenNo (c : Dev nD) (t : Fin 512) : Fin 2048 := ⟨512 * (place c).val + t.val, by omega⟩

/-- A tag, counted from one, equals the number of a device's expert, counted from one, just if the tag is that number. -/
theorem tag_iff (a : BitVec 32) (c : Dev nD) (e : Fin 2) :
    (((IntOp.addi a 1#32).toInt : ℝ) : EReal) = tagOf (wz c) (BitVec.ofNat 32 e.val) ↔ a = BitVec.ofNat 32 (expertNo c e).val := by
  rw [tagOf, EReal.coe_eq_coe_iff, Int.cast_inj, BitVec.toInt_inj]
  show a + 1#32 = wz c * 2#32 + BitVec.ofNat 32 e.val + 1#32 ↔ _
  rw [BitVec.add_left_inj, wz_place]
  have : ∀ (z : Fin 4) (e : Fin 2), BitVec.ofNat 32 z.val * 2#32 + BitVec.ofNat 32 e.val = BitVec.ofNat 32 (2 * z.val + e.val) := by decide
  rw [this]; rfl

/-- The owner of a tag that is an expert's number is the device the expert lives on. -/
theorem owner_num : ∀ (z : Fin 4) (e : Fin 2), ownerOf (BitVec.ofNat 32 (2 * z.val + e.val)) = BitVec.ofNat 32 z.val := by decide

section

variable (D : Data Ideal) (X : Fin 2048 → Fin 512 → EReal) (A : Fin 2048 → BitVec 32)
  (W1 : Fin 8 → Fin 512 → Fin 1024 → EReal) (W2 : Fin 8 → Fin 1024 → Fin 512 → EReal)

/-- The devices' blocks are those of the global arrays. -/
structure Holds : Prop where
  x : ∀ c t k, D.x c (ix2 t k) = X (tokenNo c t) k
  a1 : ∀ c t, D.a1 c (ix2 t 0) = A (tokenNo c t)
  a2 : ∀ c t, D.a2 c (ix2 0 t) = A (tokenNo c t)
  w1 : ∀ c e k f, D.w1 c (ix3 e k f) = W1 (expertNo c e) k f
  w2 : ∀ c e f d, D.w2 c (ix3 e f d) = W2 (expertNo c e) f d

variable {D X A W1 W2}

/-- A device's share of a token is what its two experts contribute. -/
theorem share_eq (h : Holds D X A W1 W2) (c : Dev nD) (x : Fin 512 → EReal) (a : BitVec 32) (d : Fin 512) :
    share D c x (((IntOp.addi a 1#32).toInt : ℝ) : EReal) d = pair a (fun e => ffn x (W1 e) (W2 e) d) (place c) := by
  have u : ∀ e, upW D c e = W1 (expertNo c e) := fun e => by funext k f; exact h.w1 c e k f
  have w : ∀ e, downW D c e = W2 (expertNo c e) := fun e => by funext f d; exact h.w2 c e f d
  unfold share both pair part
  rw [ffn_gate, ffn_gate, u, u, w, w]
  congr 1
  · exact congrArg (0 + ·) (if_congr (tag_iff a c 0) rfl rfl)
  · exact if_congr (tag_iff a c 1) rfl rfl

/-- The experts of a device that does not own the token contribute nothing. -/
theorem pair_owned (c : Dev nD) (a : BitVec 32) (E : Fin 8 → EReal) :
    (if ownerOf a = wz c then pair a E (place c) else 0) = pair a E (place c) := by
  by_cases h : ownerOf a = wz c
  · exact if_pos h
  · rw [if_neg h]
    have hn : ∀ e : Fin 2, ¬a = BitVec.ofNat 32 (2 * (place c).val + e.val) := fun e k =>
      h (by rw [k, owner_num, wz_place])
    have h0 : ¬a = BitVec.ofNat 32 (2 * (place c).val) := hn 0
    have h1 : ¬a = BitVec.ofNat 32 (2 * (place c).val + 1) := hn 1
    unfold pair part
    simp only [if_neg h0, if_neg h1, add_zero]

/-- **The kernel's result on a device, at a token and a column**: what all experts contribute together. -/
theorem result_total (h : Holds D X A W1 W2)
    (cap : ∀ c (g : Fin 4), (Finset.univ.filter fun t : Fin 512 => ownerOf (A (tokenNo c t)) = BitVec.ofNat 32 g.val).card ≤ 160)
    (c : Dev nD) (t d : Fin 512) :
    result D c (ix2 t d) = total (A (tokenNo c t)) (fun e => ffn (X (tokenNo c t)) (W1 e) (W2 e) d) := by
  have hx : (fun k => D.x c (ix2 t k)) = X (tokenNo c t) := funext (h.x c t)
  have ht : tags D c (ix2 t 0) = (((IntOp.addi (A (tokenNo c t)) 1#32).toInt : ℝ) : EReal) := by
    rw [← h.a1]
    pointwise [tags, k0_pay2]
    rfl
  rw [result_at D c (fun i => by simp only [h.a2, wp_peer, wz_place]; exact cap c (place (peer c i)))]
  simp only [hx, ht, h.a2, wp_peer, share_eq h, pair_owned]
  rw [sum_places c (pair _ _), total_pairs]

end

end Cert.KernelIdeal.Vals
-- ==== Proof.Ref.lean ====
/- The reference read at a token and a column: the result of the token's own expert, zero if no expert has the token's tag. -/
module

public import proofs.«01_k».proof.Proof.Gen.ReferenceIdeal
public import proofs.«01_k».proof.Proof.Gen.ReferenceIdeal.Run
public import proofs.«01_k».proof.Proof.Expert
public import Idealize.ShloMosaic.Lib.Affine

@[expose] public section

set_option maxRecDepth 4096
set_option synthInstance.maxSize 4096

noncomputable section

namespace Cert.Ref

open Cert.ReferenceIdeal Cert.ReferenceIdeal.Gen Cert.Expert
open Idealize.ShloMosaic Idealize.ShloMosaic.TcCoe

variable (m : (ℓ : Loc nD τ sig) → Buf (Elt Ideal) ℓ) (c : Dev nD)

/-- The four arguments by coordinates. -/
def x (t : Fin 2048) (k : Fin 512) : EReal := (m ((c.tc : Thread nD τ).loc main_arg0)) (ix2 t k)
def a (t : Fin 2048) : BitVec 32 := (m ((c.tc : Thread nD τ).loc main_arg1)) (ix1 t)
def w1 (e : Fin 8) (k : Fin 512) (f : Fin 1024) : EReal := (m ((c.tc : Thread nD τ).loc main_arg2)) (ix3 e k f)
def w2 (e : Fin 8) (f : Fin 1024) (d : Fin 512) : EReal := (m ((c.tc : Thread nD τ).loc main_arg3)) (ix3 e f d)

/-- A choice by an equality of words. -/
theorem choose_eq {α : Type} (u v : BitVec 32) (p q : α) : Scalar.select (IntOp.cmpi .eq u v) p q = if u = v then p else q := by
  by_cases h : u = v
  · rw [if_pos h, IntOp.cmpi_eq.2 h]; rfl
  · rw [if_neg h, ValueIdx.eq_zero_of_ne_one (fun k => h (IntOp.cmpi_eq.1 k))]; rfl

theorem result_at (t : Fin 2048) (d : Fin 512) : Value.res_main_v113 m c (ix2 t d)
    = total (a m c t) (fun e => ffn (x m c t) (w1 m c e) (w2 m c e) d) := by
  pointwise [Value.res_main_v113]
  rw [total_eq]
  simp only [choose_eq]
  rfl

end Cert.Ref
-- ==== Proof.Fits.lean ====
/- What the precondition says: no owner has more than the capacity among a device's tokens. -/
module

public import proofs.«01_k».proof.Proof.Gen.Pre_fits_KernelIdeal
public import proofs.«01_k».proof.Proof.Pick
public import Idealize.ShloMosaic.Lib.IndicatorCount
public import Idealize.ShloMosaic.Lib.ReduceAll

@[expose] public section

set_option maxRecDepth 4096

noncomputable section

namespace Cert.Fits

open Cert.Pre_fits_KernelIdeal Cert.Pre_fits_KernelIdeal.Gen Cert.KernelIdeal.Vals
open Idealize.ShloMosaic

/-- A count, as a word, of at most 160 among 512 is a count of at most 160. -/
theorem cap_of (b : Fin 512 → BitVec 32) (g : BitVec 32)
    (e : IntOp.cmpi .sle (Finset.univ.fold IntOp.addi (0#32)
        (fun k => BitVec.setWidth 32 (IntOp.cmpi .eq (IntOp.shrsi .host (b k) 1#32) g))) 160#32 = 1#1) :
    (Finset.univ.filter fun t : Fin 512 => ownerOf (b t) = g).card ≤ 160 := by
  rw [IndicatorCount.fold_addi_setWidth_eq_card, IntOp.cmpi_sle,
    word_int _ (le_trans (Finset.card_le_univ _) (le_of_eq (Fintype.card_fin 512))), show (160#32 : BitVec 32).toInt = 160 from by decide] at e
  simp only [IntOp.cmpi_eq] at e
  have hs : ∀ x : BitVec 32, IntOp.shrsi .host x 1#32 = ownerOf x := fun _ => rfl
  simp only [hs] at e
  exact_mod_cast e

theorem fits_cap (x : FVec Ideal S512x512 .bf16) (a : IVec S512 32) (w1 : FVec Ideal S2x512x1024 .bf16) (w2 : FVec Ideal S2x1024x512 .bf16)
    (h : fn x a w1 w2 = fun _ => 1#1) (g : Fin 4) :
    (Finset.univ.filter fun t : Fin 512 => ownerOf (a (ix1 t)) = BitVec.ofNat 32 g.val).card ≤ 160 := by
  match g with
  | 0 =>
    have e := congrFun h (ix1 0)
    pointwise [fn, fn_part1] at e
    exact cap_of _ _ e
  | 1 =>
    have e := congrFun h (ix1 1)
    pointwise [fn, fn_part1] at e
    exact cap_of _ _ e
  | 2 =>
    have e := congrFun h (ix1 2)
    pointwise [fn, fn_part1] at e
    exact cap_of _ _ e
  | 3 =>
    have e := congrFun h (ix1 3)
    pointwise [fn, fn_part1] at e
    exact cap_of _ _ e

end Cert.Fits
-- ==== Proof.Values.lean ====
/- The kernel's result on every device is its block of the reference's. -/
module

public import proofs.«01_k».proof.Defs
public import proofs.«01_k».proof.Proof.Ends
public import proofs.«01_k».proof.Proof.Equation
public import proofs.«01_k».proof.Proof.Ref
public import proofs.«01_k».proof.Proof.Fits
public import Idealize.ShloMosaic.Lib.LayoutAt

@[expose] public section

set_option maxRecDepth 4096
set_option synthInstance.maxSize 4096

noncomputable section

namespace Cert.Values

open Cert.KernelIdeal Cert.KernelIdeal.Gen Cert.KernelIdeal.Moe Cert.KernelIdeal.Vals Cert.Expert
open Idealize.ShloMosaic Idealize.ShloMosaic.TcCoe Idealize.SL.Sem

/-- A device's place along the axis the arrays are cut on. -/
theorem place_lin : ∀ c : Dev nD, Layout.meshLin [2, 2, 4] c.val [2] = (place c).val := by decide +kernel

/-- One device's block of tokens, of tags and of weights, at its coordinates. -/
theorem rows_block {α : Type} (c : Dev nD) (v : (⟨2, ![2048, 512]⟩ : Shape).Idx → α) (t k : Fin 512) :
    (Layout.blockN ⟨2, ![512, 512]⟩ ⟨2, ![2048, 512]⟩ (Layout.meshBlock [2, 2, 4] ![[2], []] c) v) (ix2 t k) = v (ix2 (tokenNo c t) k) := by
  have hc := place_lin c
  refine congrArg v (funext fun a => Fin.ext ?_)
  rw [Layout.TilesN.idx_val]
  match a with
  | ⟨0, _⟩ => show Layout.meshLin [2, 2, 4] c.val [2] * 512 + t.val = 512 * (place c).val + t.val; omega
  | ⟨1, _⟩ => show 0 * 512 + k.val = k.val; omega

theorem tags_block {α : Type} (c : Dev nD) (v : (⟨1, ![2048]⟩ : Shape).Idx → α) (t : Fin 512) :
    (Layout.blockN ⟨1, ![512]⟩ ⟨1, ![2048]⟩ (Layout.meshBlock [2, 2, 4] ![[2]] c) v) (ix1 t) = v (ix1 (tokenNo c t)) := by
  have hc := place_lin c
  refine congrArg v (funext fun a => Fin.ext ?_)
  rw [Layout.TilesN.idx_val]
  match a with
  | ⟨0, _⟩ => show Layout.meshLin [2, 2, 4] c.val [2] * 512 + t.val = 512 * (place c).val + t.val; omega

theorem weights_block {α : Type} (c : Dev nD) (M N : ℕ) (v : (⟨3, ![8, M, N]⟩ : Shape).Idx → α) (e : Fin 2) (i : Fin M) (j : Fin N)
    (h : Layout.TilesN ⟨3, ![2, M, N]⟩ ⟨3, ![8, M, N]⟩ fun a => Layout.cutSize [2, 2, 4] ((![[2], [], []] : Fin 3 → List ℕ) a)) :
    Layout.blockN ⟨3, ![2, M, N]⟩ ⟨3, ![8, M, N]⟩ (Layout.meshBlock [2, 2, 4] ![[2], [], []] c) v h (ix3 e i j) = v (ix3 (expertNo c e) i j) := by
  have hc := place_lin c
  refine congrArg v (funext fun a => Fin.ext ?_)
  rw [Layout.TilesN.idx_val]
  match a with
  | ⟨0, _⟩ => show Layout.meshLin [2, 2, 4] c.val [2] * 2 + e.val = 2 * (place c).val + e.val; omega
  | ⟨1, _⟩ => show 0 * M + i.val = i.val; omega
  | ⟨2, _⟩ => show 0 * N + j.val = j.val; omega

/-- **Over the extended reals the kernel's result is the reference's**, block by block. -/
theorem same : @Cert.algebraic_KernelIdeal_ReferenceIdeal_pre_fits_KernelIdeal Cert.KernelIdeal.Gen.facts Cert.ReferenceIdeal.Gen.facts
    Cert.Pre_fits_KernelIdeal.Gen.facts := by
  intro m g m' g' hp hb
  have hold : Holds (D m) (Cert.Ref.x m' 0) (Cert.Ref.a m' 0) (Cert.Ref.w1 m' 0) (Cert.Ref.w2 m' 0) := {
    x := fun c t k => by rw [block_x, (hb c).1, rows_block]; rfl
    a1 := fun c t => by
      rw [block_a1, (hb c).2.1]
      pointwise
      exact tags_block c _ t
    a2 := fun c t => by
      rw [block_a2, (hb c).2.1]
      pointwise
      exact tags_block c _ t
    w1 := fun c e k f => by rw [block_w1, (hb c).2.2.1]; exact weights_block c 512 1024 _ e k f _
    w2 := fun c e f d => by rw [block_w2, (hb c).2.2.2]; exact weights_block c 1024 512 _ e f d _ }
  have cap : ∀ c (z : Fin 4), (Finset.univ.filter fun t : Fin 512 =>
      ownerOf (Cert.Ref.a m' 0 (tokenNo c t)) = BitVec.ofNat 32 z.val).card ≤ 160 := fun c z => by
    have h := Cert.Fits.fits_cap _ _ _ _ (hp c) z
    rw [(hb c).2.1] at h
    refine le_trans (le_of_eq (congrArg Finset.card (Finset.filter_congr fun t _ => ?_))) h
    rw [tags_block]
    rfl
  refine ⟨Cert.ReferenceIdeal.Value.res_main_v113 m' 0, (θ_run _ _ _).mono (fun r h c => ?_) (run m g),
    (θ_run _ _ _).mono (fun r h => h 0) (Cert.ReferenceIdeal.Value.run m' g')⟩
  obtain ⟨h0, h1, h2, h3, h4⟩ := h.1 c
  refine ⟨?_, h0, h1, h2, h3⟩
  rw [h4]
  funext i
  rw [show i = ix2 (i 0) (i 1) from ValueIdx.eq_ix2 i]
  exact (result_total hold cap c (i 0) (i 1)).trans
    ((Cert.Ref.result_at m' 0 (tokenNo c (i 0)) (i 1)).symm.trans (rows_block c _ (i 0) (i 1)).symm)

end Cert.Values
-- ==== Proof.lean ====
/-
  The claims together: the frames of the three programs, the kernel's reading over the extended reals, and the equation of
  its result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_fits_KernelIdeal
public import proofs.«01_k».proof.Proof.Gen.Pre_fits_ReferenceIdeal
public import proofs.«01_k».proof.Proof.Frames
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.SL.Sem Cert.Kernel

/-- The frames hold of every memory, so also of those of which the precondition holds. -/
theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  Cert.Same.quiet, Cert.Frames.kernel_quiet, fun m g _ => Cert.Frames.kernel_quiet m g trivial,
  Cert.Frames.reference_quiet, fun m g _ => Cert.Frames.reference_quiet m g trivial, trivial, Cert.Values.same⟩

end Cert.Proof

end
